-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v25_4)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v25_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v25_4) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v25_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v69) = v2 c
          ∧ r.2.mem ((c.tc : Thread Cert.Reference3Ideal.nD Cert.Reference3Ideal.τ).loc Cert.Reference3Ideal.main_v72) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_v73) = v5 c
          ∧ r.2.mem ((c.tc : Thread Cert.Reference3Ideal.nD Cert.Reference3Ideal.τ).loc Cert.Reference3Ideal.main_v75) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_finite.lean ====
abbrev S16x4x4096x64 : Shape := ⟨4, ![16, 4, 4096, 64]⟩
abbrev S32 : Shape := ⟨1, ![32]⟩
abbrev S256 : Shape := ⟨1, ![256]⟩
abbrev S_ : Shape := ⟨0, ![]⟩

class Facts : Prop where
  bitsLt_bf16_f32 : FTy.bits .bf16 < FTy.bits .f32
  bcast_S_S16x4x4096x64 : S_.BroadcastsInDim S16x4x4096x64 (![] : Fin 0 → Fin S16x4x4096x64.rank)
  reducesTo_S16x4x4096x64_S_d0_1_2_3 : S16x4x4096x64.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn_part2 {F : FTy → Type} [FloatOps F] (main_v31 : IVec S_ 1) (main_v34 : IVec S32 1) : IVec S_ 1 :=
  let main_c_11 : IVec S_ 1 := constantI S_ 1 1#1
  let main_v35 : IVec S_ 1 := (fun x v => Host.reduce IntOp.andi x v reducesTo_S32_S_d0 h_S_) main_v34 main_c_11
  let main_v36 : IVec S_ 1 := andi main_v31 main_v35
  main_v36

def fn_part1 {F : FTy → Type} [FloatOps F] (main_arg4 : FVec F S32 .f32) (main_arg5 : FVec F S32 .f32) (main_arg6 : FVec F S32 .f32) (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  let main_v22 : FVec F S32 .f32 := Host.absf main_arg4
  let main_cst_6 : FVec F S_ .f32 := constant S_ .f32 0x7F800000#32
  let main_v23 : FVec F S32 .f32 := broadcastInDim S32 ![] bcast_S_S32 main_cst_6
  let main_v24 : IVec S32 1 := cmpf .olt main_v22 main_v23
  let main_c_7 : IVec S_ 1 := constantI S_ 1 1#1
  let main_v25 : IVec S_ 1 := (fun x v => Host.reduce IntOp.andi x v reducesTo_S32_S_d0 h_S_) main_v24 main_c_7
  let main_v26 : IVec S_ 1 := andi main_v21 main_v25
  let main_v27 : FVec F S32 .f32 := Host.absf main_arg5
  let main_cst_8 : FVec F S_ .f32 := constant S_ .f32 0x7F800000#32
  let main_v28 : FVec F S32 .f32 := broadcastInDim S32 ![] bcast_S_S32 main_cst_8
  let main_v29 : IVec S32 1 := cmpf .olt main_v27 main_v28
  let main_c_9 : IVec S_ 1 := constantI S_ 1 1#1
  let main_v30 : IVec S_ 1 := (fun x v => Host.reduce IntOp.andi x v reducesTo_S32_S_d0 h_S_) main_v29 main_c_9
  let main_v31 : IVec S_ 1 := andi main_v26 main_v30
  let main_v32 : FVec F S32 .f32 := Host.absf main_arg6
  let main_cst_10 : FVec F S_ .f32 := constant S_ .f32 0x7F800000#32
  let main_v33 : FVec F S32 .f32 := broadcastInDim S32 ![] bcast_S_S32 main_cst_10
  let main_v34 : IVec S32 1 := cmpf .olt main_v32 main_v33
  fn_part2 (F := F) main_v31 main_v34

def fn {F : FTy → Type} [FloatOps F] (main_arg0 : FVec F S16x4x4096x64 .bf16) (main_arg1 : FVec F S16x4x4096x64 .bf16) (main_arg2 : FVec F S16x4x4096x64 .bf16) (main_arg3 : FVec F S32 .f32) (main_arg4 : FVec F S32 .f32) (main_arg5 : FVec F S32 .f32) (main_arg6 : FVec F S32 .f32) (main_arg7 : FVec F S256 .f32) : IVec S_ 1 :=
  let main_v0 : FVec F S16x4x4096x64 .f32 := (extf .f32 · bitsLt_bf16_f32) main_arg0
  let main_v1 : FVec F S16x4x4096x64 .f32 := Host.absf main_v0
  let main_cst : FVec F S_ .f32 := constant S_ .f32 0x7F800000#32
  let main_v2 : FVec F S16x4x4096x64 .f32 := broadcastInDim S16x4x4096x64 ![] bcast_S_S16x4x4096x64 main_cst
  let main_v3 : IVec S16x4x4096x64 1 := cmpf .olt main_v1 main_v2
  let main_c : IVec S_ 1 := constantI S_ 1 1#1
  let main_v4 : IVec S_ 1 := (fun x v => Host.reduce IntOp.andi x v reducesTo_S16x4x4096x64_S_d0_1_2_3 h_S_) main_v3 main_c
  let main_v5 : FVec F S16x4x4096x64 .f32 := (extf .f32 · bitsLt_bf16_f32) main_arg1
  let main_v6 : FVec F S16x4x4096x64 .f32 := Host.absf main_v5
  let main_cst_0 : FVec F S_ .f32 := constant S_ .f32 0x7F800000#32
  let main_v7 : FVec F S16x4x4096x64 .f32 := broadcastInDim S16x4x4096x64 ![] bcast_S_S16x4x4096x64 main_cst_0
  let main_v8 : IVec S16x4x4096x64 1 := cmpf .olt main_v6 main_v7
  let main_c_1 : IVec S_ 1 := constantI S_ 1 1#1
  let main_v9 : IVec S_ 1 := (fun x v => Host.reduce IntOp.andi x v reducesTo_S16x4x4096x64_S_d0_1_2_3 h_S_) main_v8 main_c_1
  let main_v10 : IVec S_ 1 := andi main_v4 main_v9
  let main_v11 : FVec F S16x4x4096x64 .f32 := (extf .f32 · bitsLt_bf16_f32) main_arg2
  let main_v12 : FVec F S16x4x4096x64 .f32 := Host.absf main_v11
  let main_cst_2 : FVec F S_ .f32 := constant S_ .f32 0x7F800000#32
  let main_v13 : FVec F S16x4x4096x64 .f32 := broadcastInDim S16x4x4096x64 ![] bcast_S_S16x4x4096x64 main_cst_2
  let main_v14 : IVec S16x4x4096x64 1 := cmpf .olt main_v12 main_v13
  let main_c_3 : IVec S_ 1 := constantI S_ 1 1#1
  let main_v15 : IVec S_ 1 := (fun x v => Host.reduce IntOp.andi x v reducesTo_S16x4x4096x64_S_d0_1_2_3 h_S_) main_v14 main_c_3
  let main_v16 : IVec S_ 1 := andi main_v10 main_v15
  let main_v17 : FVec F S32 .f32 := Host.absf main_arg3
  fn_part1 (F := F) main_arg4 main_arg5 main_arg6 main_v16 main_v17
-- ==== Pre_finite3.lean ====
abbrev S16x4096x1024 : Shape := ⟨3, ![16, 4096, 1024]⟩
abbrev S16x6144 : Shape := ⟨2, ![16, 6144]⟩
abbrev S1024 : Shape := ⟨1, ![1024]⟩
abbrev S1024x3080 : Shape := ⟨2, ![1024, 3080]⟩
abbrev S32 : Shape := ⟨1, ![32]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x6144 : S_.BroadcastsInDim S16x6144 (![] : Fin 0 → Fin S16x6144.rank)
  reducesTo_S16x6144_S_d0_1 : S16x6144.ReducesTo [0, 1] S_
  bcast_S_S1024 : S_.BroadcastsInDim S1024 (![] : Fin 0 → Fin S1024.rank)
  reducesTo_S1024_S_d0 : S1024.ReducesTo [0] S_
  bcast_S_S1024x3080 : S_.BroadcastsInDim S1024x3080 (![] : Fin 0 → Fin S1024x3080.rank)
  reducesTo_S1024x3080_S_d0_1 : S1024x3080.ReducesTo [0, 1] S_

variable [Facts]

def fn_part1 {F : FTy → Type} [FloatOps F] (main_v13 : IVec S_ 1) (main_v16 : IVec S1024x3080 1) : IVec S_ 1 :=
  let main_c_5 : IVec S_ 1 := constantI S_ 1 1#1
  let main_v17 : IVec S_ 1 := (fun x v => Host.reduce IntOp.andi x v reducesTo_S1024x3080_S_d0_1 h_S_) main_v16 main_c_5
  let main_v18 : IVec S_ 1 := andi main_v13 main_v17
  main_v18

def fn {F : FTy → Type} [FloatOps F] (main_arg0 : FVec F S16x4096x1024 .f32) (main_arg1 : FVec F S16x6144 .f32) (main_arg2 : FVec F S1024 .f32) (main_arg3 : FVec F S1024x3080 .f32) (main_arg4 : FVec F S32 .f32) (main_arg5 : FVec F S32 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x6144 .f32 := Host.absf main_arg1
  let main_cst_0 : FVec F S_ .f32 := constant S_ .f32 0x7F800000#32
  let main_v5 : FVec F S16x6144 .f32 := broadcastInDim S16x6144 ![] bcast_S_S16x6144 main_cst_0
  let main_v6 : IVec S16x6144 1 := cmpf .olt main_v4 main_v5
  let main_c_1 : IVec S_ 1 := constantI S_ 1 1#1
  let main_v7 : IVec S_ 1 := (fun x v => Host.reduce IntOp.andi x v reducesTo_S16x6144_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3080 .f32 := Host.absf main_arg3
  let main_cst_4 : FVec F S_ .f32 := constant S_ .f32 0x7F800000#32
  let main_v15 : FVec F S1024x3080 .f32 := broadcastInDim S1024x3080 ![] bcast_S_S1024x3080 main_cst_4
  let main_v16 : IVec S1024x3080 1 := cmpf .olt main_v14 main_v15
  fn_part1 (F := F) main_v13 main_v16
-- ==== Kernel.lean ====
abbrev S16x4x4096x64 : Shape := ⟨4, ![16, 4, 4096, 64]⟩
abbrev S32 : Shape := ⟨1, ![32]⟩
abbrev S256 : Shape := ⟨1, ![256]⟩
abbrev S1x32 : Shape := ⟨2, ![1, 32]⟩
abbrev S4x1x64 : Shape := ⟨3, ![4, 1, 64]⟩
abbrev S1x1x256x64 : Shape := ⟨4, ![1, 1, 256, 64]⟩
abbrev S1x1x4096x64 : Shape := ⟨4, ![1, 1, 4096, 64]⟩
abbrev S1x1x64 : Shape := ⟨3, ![1, 1, 64]⟩
abbrev S256x64 : Shape := ⟨2, ![256, 64]⟩
abbrev S1x64 : Shape := ⟨2, ![1, 64]⟩
abbrev S1x1 : Shape := ⟨2, ![1, 1]⟩
abbrev S256x1024 : Shape := ⟨2, ![256, 1024]⟩
abbrev S256x1 : Shape := ⟨2, ![256, 1]⟩
abbrev S1x1x1024x64 : Shape := ⟨4, ![1, 1, 1024, 64]⟩
abbrev S1024x64 : Shape := ⟨2, ![1024, 64]⟩
abbrev S1 : Shape := ⟨1, ![1]⟩

abbrev nBuf : Space → Nat
  | .hbm => 14
  | .vmem => 14
  | .smem => 0
  | _ => 0

abbrev bufTy : (tb : Table) → Fin (tcTables nBuf tb) → BufTy
  | .hbm, ⟨0, _⟩ => ⟨S16x4x4096x64, .bf16⟩
  | .hbm, ⟨1, _⟩ => ⟨S16x4x4096x64, .bf16⟩
  | .hbm, ⟨2, _⟩ => ⟨S16x4x4096x64, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S256, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S4x1x64, .f32⟩
  | .hbm, ⟨13, _⟩ => ⟨S16x4x4096x64, .f32⟩
  | .local _ .vmem, ⟨0, _⟩ => ⟨S1x1x256x64, .bf16⟩
  | .local _ .vmem, ⟨1, _⟩ => ⟨S1x1x256x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x1x64, .f32⟩
  | .local _ .vmem, ⟨11, _⟩ => ⟨S1x1x64, .f32⟩
  | .local _ .vmem, ⟨12, _⟩ => ⟨S1x1x256x64, .f32⟩
  | .local _ .vmem, ⟨13, _⟩ => ⟨S1x1x256x64, .f32⟩
  | _, _ => ⟨S16x4x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 4, 16], ![false, false, false]⟩

@[reducible] def k0_t1_loop : Scf.Loop 32 :=
  let c0_i32 : BitVec 32 := 0#32
  let c4_i32 : BitVec 32 := 4#32
  let v32 : BitVec 32 := Scalar.addi c0_i32 c4_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c1024_i32 : BitVec 32 := 1024#32
  let v79 : BitVec 32 := Scalar.muli arg12 c1024_i32
  v79
def k0_off1 (k0_t1 : Fin k0_t1_loop.trips) : Fin 4 → Nat :=
  let c0_32 : Index := 0#32
  let c0_33 : Index := 0#32
  let c0_i32 : BitVec 32 := 0#32
  let c1_i32 : BitVec 32 := 1#32
  let arg12 : BitVec 32 := Scf.iv c0_i32 c1_i32 k0_t1
  let c1024_i32 : BitVec 32 := 1024#32
  let v79 : BitVec 32 := Scalar.muli arg12 c1024_i32
  let v80 : BitVec 32 := v79
  let v81 : Index := Scalar.indexCast v80
  let c0_34 : Index := 0#32
  ![0, 0, v81.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16x4x4096x64 : Shape := ⟨4, ![16, 4, 4096, 64]⟩
abbrev S32 : Shape := ⟨1, ![32]⟩
abbrev S256 : Shape := ⟨1, ![256]⟩
abbrev S16x4x4096x2x32 : Shape := ⟨5, ![16, 4, 4096, 2, 32]⟩
abbrev S16x4x2x4096x32 : Shape := ⟨5, ![16, 4, 2, 4096, 32]⟩
abbrev S_ : Shape := ⟨0, ![]⟩
abbrev S4 : Shape := ⟨1, ![4]⟩
abbrev S4096 : Shape := ⟨1, ![4096]⟩
abbrev S4x1x1 : Shape := ⟨3, ![4, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S16x4x2x4096x4096 : Shape := ⟨5, ![16, 4, 2, 4096, 4096]⟩
abbrev S1x4x1x4096x4096 : Shape := ⟨5, ![1, 4, 1, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x4096 : Shape := ⟨3, ![16, 4, 4096]⟩
abbrev S16x4x4096x1 : Shape := ⟨4, ![16, 4, 4096, 1]⟩
abbrev S4x1x64 : Shape := ⟨3, ![4, 1, 64]⟩
abbrev S1x4x1x64 : Shape := ⟨4, ![1, 4, 1, 64]⟩

abbrev nBuf : Space → Nat
  | .hbm => 100
  | .vmem => 0
  | .smem => 0
  | _ => 0

abbrev bufTy : (tb : Table) → Fin (tcTables nBuf tb) → BufTy
  | .hbm, ⟨0, _⟩ => ⟨S16x4x4096x64, .bf16⟩
  | .hbm, ⟨1, _⟩ => ⟨S16x4x4096x64, .bf16⟩
  | .hbm, ⟨2, _⟩ => ⟨S16x4x4096x64, .bf16⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S256, .f32⟩
  | .hbm, ⟨8, _⟩ => ⟨S16x4x4096x64, .f32⟩
  | .hbm, ⟨9, _⟩ => ⟨S16x4x4096x2x32, .f32⟩
  | .hbm, ⟨10, _⟩ => ⟨S16x4x2x4096x32, .f32⟩
  | .hbm, ⟨11, _⟩ => ⟨S16x4x4096x64, .f32⟩
  | .hbm, ⟨12, _⟩ => ⟨S16x4x4096x2x32, .f32⟩
  | .hbm, ⟨13, _⟩ => ⟨S16x4x2x4096x32, .f32⟩
  | .hbm, ⟨14, _⟩ => ⟨S16x4x4096x64, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4, .i32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4096, .i32⟩
  | .hbm, ⟨41, _⟩ => ⟨S4096, .f32⟩
  | .hbm, ⟨42, _⟩ => ⟨S4x1x1, .f32⟩
  | .hbm, ⟨43, _⟩ => ⟨S4x1x1, .f32⟩
  | .hbm, ⟨44, _⟩ => ⟨S4096x1, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S16x4x2x4096x4096, .f32⟩
  | .hbm, ⟨55, _⟩ => ⟨S1x4x1x4096x4096, .f32⟩
  | .hbm, ⟨56, _⟩ => ⟨S16x4x2x4096x4096, .f32⟩
  | .hbm, ⟨57, _⟩ => ⟨S16x4x2x4096x4096, .f32⟩
  | .hbm, ⟨58, _⟩ => ⟨S_, .f32⟩
  | .hbm, ⟨59, _⟩ => ⟨S16x4x2x4096, .f32⟩
  | .hbm, ⟨60, _⟩ => ⟨S_, .f32⟩
  | .hbm, ⟨61, _⟩ => ⟨S16x4x2x4096, .f32⟩
  | .hbm, ⟨62, _⟩ => ⟨S16x4x2x4096, .f32⟩
  | .hbm, ⟨63, _⟩ => ⟨S16x4x2x4096x1, .f32⟩
  | .hbm, ⟨64, _⟩ => ⟨S16x4x2x4096x4096, .f32⟩
  | .hbm, ⟨65, _⟩ => ⟨S16x4x2x4096x4096, .f32⟩
  | .hbm, ⟨66, _⟩ => ⟨S16x4x2x4096x4096, .f32⟩
  | .hbm, ⟨67, _⟩ => ⟨S_, .f32⟩
  | .hbm, ⟨68, _⟩ => ⟨S16x4x2x4096, .f32⟩
  | .hbm, ⟨69, _⟩ => ⟨S16x4x2x4096x1, .f32⟩
  | .hbm, ⟨70, _⟩ => ⟨S16x4x2x4096x4096, .f32⟩
  | .hbm, ⟨71, _⟩ => ⟨S16x4x2x4096x4096, .f32⟩
  | .hbm, ⟨72, _⟩ => ⟨S16x4x1x4096x4096, .f32⟩
  | .hbm, ⟨73, _⟩ => ⟨S16x4x4096x4096, .f32⟩
  | .hbm, ⟨74, _⟩ => ⟨S16x4x1x4096x4096, .f32⟩
  | .hbm, ⟨75, _⟩ => ⟨S16x4x4096x4096, .f32⟩
  | .hbm, ⟨76, _⟩ => ⟨S16x4x4096x4096, .f32⟩
  | .hbm, ⟨77, _⟩ => ⟨S16x4x4096x4096, .f32⟩
  | .hbm, ⟨78, _⟩ => ⟨S16x4x4096x4096, .f32⟩
  | .hbm, ⟨79, _⟩ => ⟨S16x4x4096x64, .f32⟩
  | .hbm, ⟨80, _⟩ => ⟨S16x4x4096x64, .f32⟩
  | .hbm, ⟨81, _⟩ => ⟨S_, .f32⟩
  | .hbm, ⟨82, _⟩ => ⟨S16x4x4096, .f32⟩
  | .hbm, ⟨83, _⟩ => ⟨S16x4x4096x1, .f32⟩
  | .hbm, ⟨84, _⟩ => ⟨S_, .f32⟩
  | .hbm, ⟨85, _⟩ => ⟨S16x4x4096x1, .f32⟩
  | .hbm, ⟨86, _⟩ => ⟨S16x4x4096x1, .f32⟩
  | .hbm, ⟨87, _⟩ => ⟨S_, .f32⟩
  | .hbm, ⟨88, _⟩ => ⟨S16x4x4096x1, .f32⟩
  | .hbm, ⟨89, _⟩ => ⟨S16x4x4096x1, .f32⟩
  | .hbm, ⟨90, _⟩ => ⟨S16x4x4096x1, .f32⟩
  | .hbm, ⟨91, _⟩ => ⟨S16x4x4096x64, .f32⟩
  | .hbm, ⟨92, _⟩ => ⟨S16x4x4096x64, .f32⟩
  | .hbm, ⟨93, _⟩ => ⟨S4x1x64, .f32⟩
  | .hbm, ⟨94, _⟩ => ⟨S1x4x1x64, .f32⟩
  | .hbm, ⟨95, _⟩ => ⟨S16x4x4096x64, .f32⟩
  | .hbm, ⟨96, _⟩ => ⟨S16x4x4096x64, .f32⟩
  | .hbm, ⟨97, _⟩ => ⟨S_, .f32⟩
  | .hbm, ⟨98, _⟩ => ⟨S16x4x4096x64, .f32⟩
  | .hbm, ⟨99, _⟩ => ⟨S16x4x4096x64, .f32⟩
  | _, _ => ⟨S16x4x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x6144 : Shape := ⟨2, ![16, 6144]⟩
abbrev S1024 : Shape := ⟨1, ![1024]⟩
abbrev S16x4096x256 : Shape := ⟨3, ![16, 4096, 256]⟩
abbrev S16x4x4096x64 : Shape := ⟨4, ![16, 4, 4096, 64]⟩
abbrev S4x256x1024 : Shape := ⟨3, ![4, 256, 1024]⟩
abbrev S4x1024x1024 : Shape := ⟨3, ![4, 1024, 1024]⟩
abbrev S4x1024 : Shape := ⟨2, ![4, 1024]⟩
abbrev S1024x1024 : Shape := ⟨2, ![1024, 1024]⟩
abbrev S1x1024 : Shape := ⟨2, ![1, 1024]⟩
abbrev S1024x4x1024 : Shape := ⟨3, ![1024, 4, 1024]⟩
abbrev S1024x4096 : Shape := ⟨2, ![1024, 4096]⟩
abbrev S1x4096 : Shape := ⟨2, ![1, 4096]⟩
abbrev S16x1x6144 : Shape := ⟨3, ![16, 1, 6144]⟩
abbrev S1x512x1024 : Shape := ⟨3, ![1, 512, 1024]⟩
abbrev S1x1x6144 : Shape := ⟨3, ![1, 1, 6144]⟩
abbrev S1x512x256 : Shape := ⟨3, ![1, 512, 256]⟩
abbrev S1x4x512x64 : Shape := ⟨4, ![1, 4, 512, 64]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S512x256 : Shape := ⟨2, ![512, 256]⟩
abbrev S1x256x1024 : Shape := ⟨3, ![1, 256, 1024]⟩
abbrev S256x1024 : Shape := ⟨2, ![256, 1024]⟩
abbrev S1x1x512x64 : Shape := ⟨4, ![1, 1, 512, 64]⟩
abbrev S512x64 : Shape := ⟨2, ![512, 64]⟩
abbrev S1x64x1024 : Shape := ⟨3, ![1, 64, 1024]⟩
abbrev S64x1024 : Shape := ⟨2, ![64, 1024]⟩

abbrev nBuf : Space → Nat
  | .hbm => 20
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S16x4096x256, .f32⟩
  | .hbm, ⟨4, _⟩ => ⟨S16x4x4096x64, .f32⟩
  | .hbm, ⟨5, _⟩ => ⟨S16x4096x256, .f32⟩
  | .hbm, ⟨6, _⟩ => ⟨S16x4096x256, .f32⟩
  | .hbm, ⟨7, _⟩ => ⟨S4x256x1024, .f32⟩
  | .hbm, ⟨8, _⟩ => ⟨S4x1024x1024, .f32⟩
  | .hbm, ⟨9, _⟩ => ⟨S4x1024, .f32⟩
  | .hbm, ⟨10, _⟩ => ⟨S1024x1024, .f32⟩
  | .hbm, ⟨11, _⟩ => ⟨S1x1024, .f32⟩
  | .hbm, ⟨12, _⟩ => ⟨S4x256x1024, .bf16⟩
  | .hbm, ⟨13, _⟩ => ⟨S1024x4x1024, .f32⟩
  | .hbm, ⟨14, _⟩ => ⟨S1024x4096, .f32⟩
  | .hbm, ⟨15, _⟩ => ⟨S1024x4096, .bf16⟩
  | .hbm, ⟨16, _⟩ => ⟨S1x4096, .f32⟩
  | .hbm, ⟨17, _⟩ => ⟨S1024x1024, .bf16⟩
  | .hbm, ⟨18, _⟩ => ⟨S16x1x6144, .f32⟩
  | .hbm, ⟨19, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x512x256, .f32⟩
  | .local _ .vmem, ⟨6, _⟩ => ⟨S1x512x256, .f32⟩
  | .local _ .vmem, ⟨7, _⟩ => ⟨S1x4x512x64, .f32⟩
  | .local _ .vmem, ⟨8, _⟩ => ⟨S1x4x512x64, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S4x256x1024, .bf16⟩
  | .local _ .vmem, ⟨14, _⟩ => ⟨S1024x4096, .bf16⟩
  | .local _ .vmem, ⟨15, _⟩ => ⟨S1x4096, .f32⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S16x4096x1024 : Shape := ⟨3, ![16, 4096, 1024]⟩
abbrev S16x6144 : Shape := ⟨2, ![16, 6144]⟩
abbrev S1024 : Shape := ⟨1, ![1024]⟩
abbrev S16x4096x256 : Shape := ⟨3, ![16, 4096, 256]⟩
abbrev S16x4x4096x64 : Shape := ⟨4, ![16, 4, 4096, 64]⟩
abbrev S4x256x1024 : Shape := ⟨3, ![4, 256, 1024]⟩
abbrev S4x1024x1024 : Shape := ⟨3, ![4, 1024, 1024]⟩
abbrev S4x1024 : Shape := ⟨2, ![4, 1024]⟩
abbrev S1024x1024 : Shape := ⟨2, ![1024, 1024]⟩
abbrev S16x1x6144 : Shape := ⟨3, ![16, 1, 6144]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4x64 : Shape := ⟨4, ![16, 4096, 4, 64]⟩
abbrev S1x1024x1024 : Shape := ⟨3, ![1, 1024, 1024]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 133
  | .vmem => 0
  | .smem => 0
  | _ => 0

abbrev hbmTy0_0 (i : Nat) : BufTy := match i % 128 with
  | 0 => ⟨S16x4096x1024, .f32⟩
  | 1 => ⟨S16x6144, .f32⟩
  | 2 => ⟨S1024, .f32⟩
  | 3 => ⟨S16x4096x256, .f32⟩
  | 4 => ⟨S16x4x4096x64, .f32⟩
  | 5 => ⟨S16x4096x256, .f32⟩
  | 6 => ⟨S16x4096x256, .f32⟩
  | 7 => ⟨S4x256x1024, .f32⟩
  | 8 => ⟨S4x1024x1024, .f32⟩
  | 9 => ⟨S4x1024, .f32⟩
  | 10 => ⟨S1024x1024, .f32⟩
  | 11 => ⟨S16x1x6144, .f32⟩
  | 12 => ⟨S16x1x1024, .f32⟩
  | 13 => ⟨S16x1x1024, .f32⟩
  | 14 => ⟨S16x1x1024, .f32⟩
  | 15 => ⟨S16x1x1024, .f32⟩
  | 16 => ⟨S16x1x1024, .f32⟩
  | 17 => ⟨S16x1x1024, .f32⟩
  | 18 => ⟨S16x4096x1024, .f32⟩
  | 19 => ⟨S_, .f32⟩
  | 20 => ⟨S16x4096, .f32⟩
  | 21 => ⟨S16x4096x1, .f32⟩
  | 22 => ⟨S_, .f32⟩
  | 23 => ⟨S16x4096x1, .f32⟩
  | 24 => ⟨S16x4096x1, .f32⟩
  | 25 => ⟨S_, .f32⟩
  | 26 => ⟨S16x4096x1, .f32⟩
  | 27 => ⟨S16x4096x1, .f32⟩
  | 28 => ⟨S16x4096x1, .f32⟩
  | 29 => ⟨S16x4096x1024, .f32⟩
  | 30 => ⟨S16x4096x1024, .f32⟩
  | 31 => ⟨S1x1x1024, .f32⟩
  | 32 => ⟨S16x4096x1024, .f32⟩
  | 33 => ⟨S16x4096x1024, .f32⟩
  | 34 => ⟨S_, .f32⟩
  | 35 => ⟨S16x1x1024, .f32⟩
  | 36 => ⟨S16x1x1024, .f32⟩
  | 37 => ⟨S16x4096x1024, .f32⟩
  | 38 => ⟨S16x4096x1024, .f32⟩
  | 39 => ⟨S16x4096x1024, .f32⟩
  | 40 => ⟨S16x4096x1024, .f32⟩
  | 41 => ⟨S16x4096x4x64, .f32⟩
  | 42 => ⟨S16x4096x256, .f32⟩
  | 43 => ⟨S1x1024x1024, .f32⟩
  | 44 => ⟨S1024x1024, .f32⟩
  | 45 => ⟨S16x4096x1024, .f32⟩
  | 46 => ⟨S1x1024, .f32⟩
  | 47 => ⟨S1024, .f32⟩
  | 48 => ⟨S1x1x1024, .f32⟩
  | 49 => ⟨S16x4096x1024, .f32⟩
  | 50 => ⟨S16x4096x1024, .f32⟩
  | 51 => ⟨S16x4096x1024, .f32⟩
  | 52 => ⟨S16x4096x1024, .f32⟩
  | 53 => ⟨S_, .f32⟩
  | 54 => ⟨S16x4096x1024, .f32⟩
  | 55 => ⟨S16x4096x1024, .f32⟩
  | 56 => ⟨S_, .f32⟩
  | 57 => ⟨S16x4096x1024, .f32⟩
  | 58 => ⟨S16x4096x1024, .f32⟩
  | 59 => ⟨S1x256x1024, .f32⟩
  | 60 => ⟨S256x1024, .f32⟩
  | 61 => ⟨S16x4096x1024, .f32⟩
  | 62 => ⟨S16x4096x1024, .f32⟩
  | 63 => ⟨S_, .f32⟩
  | 64 => ⟨S16x4096x1024, .f32⟩
  | 65 => ⟨S16x4096x1024, .f32⟩
  | 66 => ⟨S1x1024x1024, .f32⟩
  | 67 => ⟨S1024x1024, .f32⟩
  | 68 => ⟨S16x4096x1024, .f32⟩
  | 69 => ⟨S1x1024, .f32⟩
  | 70 => ⟨S1024, .f32⟩
  | 71 => ⟨S1x1x1024, .f32⟩
  | 72 => ⟨S16x4096x1024, .f32⟩
  | 73 => ⟨S16x4096x1024, .f32⟩
  | 74 => ⟨S16x4096x1024, .f32⟩
  | 75 => ⟨S16x4096x1024, .f32⟩
  | 76 => ⟨S_, .f32⟩
  | 77 => ⟨S16x4096x1024, .f32⟩
  | 78 => ⟨S16x4096x1024, .f32⟩
  | 79 => ⟨S_, .f32⟩
  | 80 => ⟨S16x4096x1024, .f32⟩
  | 81 => ⟨S16x4096x1024, .f32⟩
  | 82 => ⟨S1x256x1024, .f32⟩
  | 83 => ⟨S256x1024, .f32⟩
  | 84 => ⟨S16x4096x1024, .f32⟩
  | 85 => ⟨S16x4096x1024, .f32⟩
  | 86 => ⟨S16x4096x1024, .f32⟩
  | 87 => ⟨S1x1024x1024, .f32⟩
  | 88 => ⟨S1024x1024, .f32⟩
  | 89 => ⟨S16x4096x1024, .f32⟩
  | 90 => ⟨S1x1024, .f32⟩
  | 91 => ⟨S1024, .f32⟩
  | 92 => ⟨S1x1x1024, .f32⟩
  | 93 => ⟨S16x4096x1024, .f32⟩
  | 94 => ⟨S16x4096x1024, .f32⟩
  | 95 => ⟨S16x4096x1024, .f32⟩
  | 96 => ⟨S16x4096x1024, .f32⟩
  | 97 => ⟨S_, .f32⟩
  | 98 => ⟨S16x4096x1024, .f32⟩
  | 99 => ⟨S16x4096x1024, .f32⟩
  | 100 => ⟨S_, .f32⟩
  | 101 => ⟨S16x4096x1024, .f32⟩
  | 102 => ⟨S16x4096x1024, .f32⟩
  | 103 => ⟨S1x256x1024, .f32⟩
  | 104 => ⟨S256x1024, .f32⟩
  | 105 => ⟨S16x4096x1024, .f32⟩
  | 106 => ⟨S16x4096x1024, .f32⟩
  | 107 => ⟨S16x4096x1024, .f32⟩
  | 108 => ⟨S1x1024x1024, .f32⟩
  | 109 => ⟨S1024x1024, .f32⟩
  | 110 => ⟨S16x4096x1024, .f32⟩
  | 111 => ⟨S1x1024, .f32⟩
  | 112 => ⟨S1024, .f32⟩
  | 113 => ⟨S1x1x1024, .f32⟩
  | 114 => ⟨S16x4096x1024, .f32⟩
  | 115 => ⟨S16x4096x1024, .f32⟩
  | 116 => ⟨S16x4096x1024, .f32⟩
  | 117 => ⟨S16x4096x1024, .f32⟩
  | 118 => ⟨S_, .f32⟩
  | 119 => ⟨S16x4096x1024, .f32⟩
  | 120 => ⟨S16x4096x1024, .f32⟩
  | 121 => ⟨S_, .f32⟩
  | 122 => ⟨S16x4096x1024, .f32⟩
  | 123 => ⟨S16x4096x1024, .f32⟩
  | 124 => ⟨S1x256x1024, .f32⟩
  | 125 => ⟨S256x1024, .f32⟩
  | 126 => ⟨S16x4096x1024, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S16x4096x1024, .f32⟩
  | 2 => ⟨S16x4096x1024, .f32⟩
  | 3 => ⟨S16x4096x1024, .f32⟩
  | 4 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_8 : Ref sig .tc := ⟨.hbm, 97, rfl⟩
abbrev main_v77 : Ref sig .tc := ⟨.hbm, 98, rfl⟩
abbrev main_v78 : Ref sig .tc := ⟨.hbm, 99, rfl⟩
abbrev main_cst_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_10 : Ref sig .tc := ⟨.hbm, 118, rfl⟩
abbrev main_v96 : Ref sig .tc := ⟨.hbm, 119, rfl⟩
abbrev main_v97 : Ref sig .tc := ⟨.hbm, 120, rfl⟩
abbrev main_cst_11 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x6144 : Shape := ⟨2, ![16, 6144]⟩
abbrev S1024 : Shape := ⟨1, ![1024]⟩
abbrev S1024x3080 : Shape := ⟨2, ![1024, 3080]⟩
abbrev S32 : Shape := ⟨1, ![32]⟩
abbrev S8x8 : Shape := ⟨2, ![8, 8]⟩
abbrev S_ : Shape := ⟨0, ![]⟩
abbrev S32x32 : Shape := ⟨2, ![32, 32]⟩
abbrev S8x1x8x1 : Shape := ⟨4, ![8, 1, 8, 1]⟩
abbrev S1x32x1x32 : Shape := ⟨4, ![1, 32, 1, 32]⟩
abbrev S8x32x8x32 : Shape := ⟨4, ![8, 32, 8, 32]⟩
abbrev S256x256 : Shape := ⟨2, ![256, 256]⟩
abbrev S1x1024 : Shape := ⟨2, ![1, 1024]⟩
abbrev S1024x3200 : Shape := ⟨2, ![1024, 3200]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S16x1x6144 : Shape := ⟨3, ![16, 1, 6144]⟩
abbrev S16x4096x768 : Shape := ⟨3, ![16, 4096, 768]⟩
abbrev S16x4x4096x64 : Shape := ⟨4, ![16, 4, 4096, 64]⟩
abbrev S16x4096x128 : Shape := ⟨3, ![16, 4096, 128]⟩
abbrev S1x512x1024 : Shape := ⟨3, ![1, 512, 1024]⟩
abbrev S1x1x6144 : Shape := ⟨3, ![1, 1, 6144]⟩
abbrev S1x512x768 : Shape := ⟨3, ![1, 512, 768]⟩
abbrev S1x4x512x64 : Shape := ⟨4, ![1, 4, 512, 64]⟩
abbrev S1x512x128 : Shape := ⟨3, ![1, 512, 128]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S512x3200 : Shape := ⟨2, ![512, 3200]⟩
abbrev S512x768 : Shape := ⟨2, ![512, 768]⟩
abbrev S512x128 : Shape := ⟨2, ![512, 128]⟩
abbrev S512x256 : Shape := ⟨2, ![512, 256]⟩
abbrev S512x64 : Shape := ⟨2, ![512, 64]⟩
abbrev S1x1x512x64 : Shape := ⟨4, ![1, 1, 512, 64]⟩

abbrev nBuf : Space → Nat
  | .hbm => 49
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x3080, .f32⟩
  | .hbm, ⟨4, _⟩ => ⟨S32, .f32⟩
  | .hbm, ⟨5, _⟩ => ⟨S32, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S32x32, .f32⟩
  | .hbm, ⟨15, _⟩ => ⟨S8x1x8x1, .f32⟩
  | .hbm, ⟨16, _⟩ => ⟨S1x32x1x32, .f32⟩
  | .hbm, ⟨17, _⟩ => ⟨S8x32x8x32, .f32⟩
  | .hbm, ⟨18, _⟩ => ⟨S8x32x8x32, .f32⟩
  | .hbm, ⟨19, _⟩ => ⟨S8x32x8x32, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S1x1024, .f32⟩
  | .hbm, ⟨25, _⟩ => ⟨S_, .i32⟩
  | .hbm, ⟨26, _⟩ => ⟨S_, .f32⟩
  | .hbm, ⟨27, _⟩ => ⟨S1024x3200, .f32⟩
  | .hbm, ⟨28, _⟩ => ⟨S1024x3200, .bf16⟩
  | .hbm, ⟨29, _⟩ => ⟨S1x32, .f32⟩
  | .hbm, ⟨30, _⟩ => ⟨S8x32, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S1x256, .f32⟩
  | .hbm, ⟨36, _⟩ => ⟨S1x32, .f32⟩
  | .hbm, ⟨37, _⟩ => ⟨S8x32, .f32⟩
  | .hbm, ⟨38, _⟩ => ⟨S256, .f32⟩
  | .hbm, ⟨39, _⟩ => ⟨S1x256, .f32⟩
  | .hbm, ⟨40, _⟩ => ⟨S256x256, .bf16⟩
  | .hbm, ⟨41, _⟩ => ⟨S16x1x6144, .f32⟩
  | .hbm, ⟨42, _⟩ => ⟨S16x4096x768, .f32⟩
  | .hbm, ⟨43, _⟩ => ⟨S16x4x4096x64, .bf16⟩
  | .hbm, ⟨44, _⟩ => ⟨S16x4x4096x64, .bf16⟩
  | .hbm, ⟨45, _⟩ => ⟨S16x4x4096x64, .bf16⟩
  | .hbm, ⟨46, _⟩ => ⟨S16x4096x768, .f32⟩
  | .hbm, ⟨47, _⟩ => ⟨S16x4096x768, .f32⟩
  | .hbm, ⟨48, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3200, .bf16⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S1x512x768, .f32⟩
  | .local _ .vmem, ⟨10, _⟩ => ⟨S1x512x768, .f32⟩
  | .local _ .vmem, ⟨11, _⟩ => ⟨S1x4x512x64, .bf16⟩
  | .local _ .vmem, ⟨12, _⟩ => ⟨S1x4x512x64, .bf16⟩
  | .local _ .vmem, ⟨13, _⟩ => ⟨S1x4x512x64, .bf16⟩
  | .local _ .vmem, ⟨14, _⟩ => ⟨S1x4x512x64, .bf16⟩
  | .local _ .vmem, ⟨15, _⟩ => ⟨S1x4x512x64, .bf16⟩
  | .local _ .vmem, ⟨16, _⟩ => ⟨S1x4x512x64, .bf16⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x128, .f32⟩
  | .local _ .vmem, ⟨22, _⟩ => ⟨S1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v25_3 : Ref sig .tc := ⟨.hbm, 45, rfl⟩
abbrev main_v25_4 : Ref sig .tc := ⟨.hbm, 46, rfl⟩
abbrev main_v25_5 : Ref sig .tc := ⟨.hbm, 47, rfl⟩
abbrev main_v25_6 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x4096x1024 : Shape := ⟨3, ![16, 4096, 1024]⟩
abbrev S16x6144 : Shape := ⟨2, ![16, 6144]⟩
abbrev S1024 : Shape := ⟨1, ![1024]⟩
abbrev S1024x3080 : Shape := ⟨2, ![1024, 3080]⟩
abbrev S32 : Shape := ⟨1, ![32]⟩
abbrev S16x1x6144 : Shape := ⟨3, ![16, 1, 6144]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3080 : Shape := ⟨3, ![16, 4096, 3080]⟩
abbrev S16x4096x768 : Shape := ⟨3, ![16, 4096, 768]⟩
abbrev S16x4096x776 : Shape := ⟨3, ![16, 4096, 776]⟩
abbrev S16x4096x256 : Shape := ⟨3, ![16, 4096, 256]⟩
abbrev S16x4096x4x2x32 : Shape := ⟨5, ![16, 4096, 4, 2, 32]⟩
abbrev S16x4096x4x2 : Shape := ⟨4, ![16, 4096, 4, 2]⟩
abbrev S16x4096x4x2x1 : Shape := ⟨5, ![16, 4096, 4, 2, 1]⟩
abbrev S1x1x1x1x32 : Shape := ⟨5, ![1, 1, 1, 1, 32]⟩
abbrev S16x4096x4x64 : Shape := ⟨4, ![16, 4096, 4, 64]⟩
abbrev S16x4x4096x64 : Shape := ⟨4, ![16, 4, 4096, 64]⟩
abbrev S16x4096x8 : Shape := ⟨3, ![16, 4096, 8]⟩
abbrev S16x4096x128 : Shape := ⟨3, ![16, 4096, 128]⟩

abbrev nBuf : Space → Nat
  | .hbm => 95
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x3080, .f32⟩
  | .hbm, ⟨4, _⟩ => ⟨S32, .f32⟩
  | .hbm, ⟨5, _⟩ => ⟨S32, .f32⟩
  | .hbm, ⟨6, _⟩ => ⟨S16x1x6144, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x3080, .f32⟩
  | .hbm, ⟨37, _⟩ => ⟨S16x4096x768, .f32⟩
  | .hbm, ⟨38, _⟩ => ⟨S16x4096x768, .f32⟩
  | .hbm, ⟨39, _⟩ => ⟨S16x4096x768, .f32⟩
  | .hbm, ⟨40, _⟩ => ⟨S16x4096x776, .f32⟩
  | .hbm, ⟨41, _⟩ => ⟨S16x4096x256, .f32⟩
  | .hbm, ⟨42, _⟩ => ⟨S16x4096x256, .f32⟩
  | .hbm, ⟨43, _⟩ => ⟨S16x4096x256, .f32⟩
  | .hbm, ⟨44, _⟩ => ⟨S16x4096x4x2x32, .f32⟩
  | .hbm, ⟨45, _⟩ => ⟨S16x4096x4x2x32, .f32⟩
  | .hbm, ⟨46, _⟩ => ⟨S16x4096x4x2x32, .f32⟩
  | .hbm, ⟨47, _⟩ => ⟨S_, .f32⟩
  | .hbm, ⟨48, _⟩ => ⟨S16x4096x4x2, .f32⟩
  | .hbm, ⟨49, _⟩ => ⟨S16x4096x4x2x1, .f32⟩
  | .hbm, ⟨50, _⟩ => ⟨S_, .f32⟩
  | .hbm, ⟨51, _⟩ => ⟨S16x4096x4x2x1, .f32⟩
  | .hbm, ⟨52, _⟩ => ⟨S16x4096x4x2x1, .f32⟩
  | .hbm, ⟨53, _⟩ => ⟨S_, .f32⟩
  | .hbm, ⟨54, _⟩ => ⟨S16x4096x4x2x1, .f32⟩
  | .hbm, ⟨55, _⟩ => ⟨S16x4096x4x2x1, .f32⟩
  | .hbm, ⟨56, _⟩ => ⟨S16x4096x4x2x1, .f32⟩
  | .hbm, ⟨57, _⟩ => ⟨S16x4096x4x2x32, .f32⟩
  | .hbm, ⟨58, _⟩ => ⟨S16x4096x4x2x32, .f32⟩
  | .hbm, ⟨59, _⟩ => ⟨S1x1x1x1x32, .f32⟩
  | .hbm, ⟨60, _⟩ => ⟨S16x4096x4x2x32, .f32⟩
  | .hbm, ⟨61, _⟩ => ⟨S16x4096x4x2x32, .f32⟩
  | .hbm, ⟨62, _⟩ => ⟨S_, .f32⟩
  | .hbm, ⟨63, _⟩ => ⟨S16x4096x4x2x32, .f32⟩
  | .hbm, ⟨64, _⟩ => ⟨S16x4096x4x2x32, .f32⟩
  | .hbm, ⟨65, _⟩ => ⟨S16x4096x4x2x32, .f32⟩
  | .hbm, ⟨66, _⟩ => ⟨S_, .f32⟩
  | .hbm, ⟨67, _⟩ => ⟨S16x4096x4x2, .f32⟩
  | .hbm, ⟨68, _⟩ => ⟨S16x4096x4x2x1, .f32⟩
  | .hbm, ⟨69, _⟩ => ⟨S_, .f32⟩
  | .hbm, ⟨70, _⟩ => ⟨S16x4096x4x2x1, .f32⟩
  | .hbm, ⟨71, _⟩ => ⟨S16x4096x4x2x1, .f32⟩
  | .hbm, ⟨72, _⟩ => ⟨S_, .f32⟩
  | .hbm, ⟨73, _⟩ => ⟨S16x4096x4x2x1, .f32⟩
  | .hbm, ⟨74, _⟩ => ⟨S16x4096x4x2x1, .f32⟩
  | .hbm, ⟨75, _⟩ => ⟨S16x4096x4x2x1, .f32⟩
  | .hbm, ⟨76, _⟩ => ⟨S16x4096x4x2x32, .f32⟩
  | .hbm, ⟨77, _⟩ => ⟨S16x4096x4x2x32, .f32⟩
  | .hbm, ⟨78, _⟩ => ⟨S1x1x1x1x32, .f32⟩
  | .hbm, ⟨79, _⟩ => ⟨S16x4096x4x2x32, .f32⟩
  | .hbm, ⟨80, _⟩ => ⟨S16x4096x4x2x32, .f32⟩
  | .hbm, ⟨81, _⟩ => ⟨S16x4096x4x64, .f32⟩
  | .hbm, ⟨82, _⟩ => ⟨S16x4x4096x64, .f32⟩
  | .hbm, ⟨83, _⟩ => ⟨S16x4x4096x64, .bf16⟩
  | .hbm, ⟨84, _⟩ => ⟨S16x4096x4x64, .f32⟩
  | .hbm, ⟨85, _⟩ => ⟨S16x4x4096x64, .f32⟩
  | .hbm, ⟨86, _⟩ => ⟨S16x4x4096x64, .bf16⟩
  | .hbm, ⟨87, _⟩ => ⟨S16x4096x4x64, .f32⟩
  | .hbm, ⟨88, _⟩ => ⟨S16x4x4096x64, .f32⟩
  | .hbm, ⟨89, _⟩ => ⟨S16x4x4096x64, .bf16⟩
  | .hbm, ⟨90, _⟩ => ⟨S16x4096x768, .f32⟩
  | .hbm, ⟨91, _⟩ => ⟨S16x4096x8, .f32⟩
  | .hbm, ⟨92, _⟩ => ⟨S_, .i32⟩
  | .hbm, ⟨93, _⟩ => ⟨S_, .f32⟩
  | .hbm, ⟨94, _⟩ => ⟨S16x4096x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c : Ref sig .tc := ⟨.hbm, 92, rfl⟩
abbrev main_call0_v0 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel4.lean ====
abbrev S16x1024 : Shape := ⟨2, ![16, 1024]⟩
abbrev S8x1024 : Shape := ⟨2, ![8, 1024]⟩
abbrev S4x1024x6144 : Shape := ⟨3, ![4, 1024, 6144]⟩
abbrev S4x6144 : Shape := ⟨2, ![4, 6144]⟩
abbrev S24x1024 : Shape := ⟨2, ![24, 1024]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S8x1024, .f32⟩
  | .hbm, ⟨2, _⟩ => ⟨S4x1024x6144, .f32⟩
  | .hbm, ⟨3, _⟩ => ⟨S4x6144, .f32⟩
  | .hbm, ⟨4, _⟩ => ⟨S24x1024, .f32⟩
  | .hbm, ⟨5, _⟩ => ⟨S4x1x6144, .f32⟩
  | .hbm, ⟨6, _⟩ => ⟨S4x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S8x1024 : Shape := ⟨2, ![8, 1024]⟩
abbrev S4x1024x6144 : Shape := ⟨3, ![4, 1024, 6144]⟩
abbrev S4x6144 : Shape := ⟨2, ![4, 6144]⟩
abbrev S24x1024 : Shape := ⟨2, ![24, 1024]⟩
abbrev S_ : Shape := ⟨0, ![]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x1024, .f32⟩
  | .hbm, ⟨2, _⟩ => ⟨S4x1024x6144, .f32⟩
  | .hbm, ⟨3, _⟩ => ⟨S4x6144, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S4x6144x24, .f32⟩
  | .hbm, ⟨15, _⟩ => ⟨S4x24x6144, .f32⟩
  | .hbm, ⟨16, _⟩ => ⟨S4x1x6144, .f32⟩
  | .hbm, ⟨17, _⟩ => ⟨S4x24x6144, .f32⟩
  | .hbm, ⟨18, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel5.lean ====
abbrev S16x4096x1024 : Shape := ⟨3, ![16, 4096, 1024]⟩
abbrev S16x6144 : Shape := ⟨2, ![16, 6144]⟩
abbrev S1024 : Shape := ⟨1, ![1024]⟩
abbrev S1024x2048 : Shape := ⟨2, ![1024, 2048]⟩
abbrev S2048 : Shape := ⟨1, ![2048]⟩
abbrev S8x2x128x128 : Shape := ⟨4, ![8, 2, 128, 128]⟩
abbrev S16384x1024 : Shape := ⟨2, ![16384, 1024]⟩
abbrev S1x1024 : Shape := ⟨2, ![1, 1024]⟩
abbrev S2048x1024 : Shape := ⟨2, ![2048, 1024]⟩
abbrev S2048x1 : Shape := ⟨2, ![2048, 1]⟩
abbrev S2048x128 : Shape := ⟨2, ![2048, 128]⟩
abbrev S16x128x128 : Shape := ⟨3, ![16, 128, 128]⟩
abbrev S1024x16384 : Shape := ⟨2, ![1024, 16384]⟩
abbrev S16x1x6144 : Shape := ⟨3, ![16, 1, 6144]⟩
abbrev S1x512x1024 : Shape := ⟨3, ![1, 512, 1024]⟩
abbrev S1x1x6144 : Shape := ⟨3, ![1, 1, 6144]⟩
abbrev S1024x1024 : Shape := ⟨2, ![1024, 1024]⟩
abbrev S1024x512 : Shape := ⟨2, ![1024, 512]⟩
abbrev S2048x512 : Shape := ⟨2, ![2048, 512]⟩
abbrev S16x128x512 : Shape := ⟨3, ![16, 128, 512]⟩
abbrev S16x16x512 : Shape := ⟨3, ![16, 16, 512]⟩
abbrev S8x128x512 : Shape := ⟨3, ![8, 128, 512]⟩
abbrev S512x1024 : Shape := ⟨2, ![512, 1024]⟩
abbrev S1x6144 : Shape := ⟨2, ![1, 6144]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x512 : Shape := ⟨2, ![128, 512]⟩
abbrev S1x128x512 : Shape := ⟨3, ![1, 128, 512]⟩
abbrev S128 : Shape := ⟨1, ![128]⟩
abbrev S1x128 : Shape := ⟨2, ![1, 128]⟩
abbrev S16x128 : Shape := ⟨2, ![16, 128]⟩
abbrev S1x16x128 : Shape := ⟨3, ![1, 16, 128]⟩
abbrev S8x128 : Shape := ⟨2, ![8, 128]⟩
abbrev S80x128 : Shape := ⟨2, ![80, 128]⟩
abbrev S256x1024 : Shape := ⟨2, ![256, 1024]⟩
abbrev S256x512 : Shape := ⟨2, ![256, 512]⟩
abbrev S1x8x128 : Shape := ⟨3, ![1, 8, 128]⟩
abbrev S1024x256 : Shape := ⟨2, ![1024, 256]⟩

abbrev nBuf : Space → Nat
  | .hbm => 20
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S8x2x128x128, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1, .f32⟩
  | .hbm, ⟨12, _⟩ => ⟨S2048x128, .f32⟩
  | .hbm, ⟨13, _⟩ => ⟨S16x128x128, .f32⟩
  | .hbm, ⟨14, _⟩ => ⟨S16x128x128, .bf16⟩
  | .hbm, ⟨15, _⟩ => ⟨S16384x1024, .bf16⟩
  | .hbm, ⟨16, _⟩ => ⟨S1024x16384, .f32⟩
  | .hbm, ⟨17, _⟩ => ⟨S1024x16384, .bf16⟩
  | .hbm, ⟨18, _⟩ => ⟨S16x1x6144, .f32⟩
  | .hbm, ⟨19, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S2048x1024, .bf16⟩
  | .local _ .vmem, ⟨6, _⟩ => ⟨S2048x128, .f32⟩
  | .local _ .vmem, ⟨7, _⟩ => ⟨S16x128x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1024x512, .bf16⟩
  | .local _ .vmem, ⟨15, _⟩ => ⟨S2048x512, .bf16⟩
  | .local _ .vmem, ⟨16, _⟩ => ⟨S16x128x512, .f32⟩
  | .local _ .vmem, ⟨17, _⟩ => ⟨S16x16x512, .f32⟩
  | .local _ .vmem, ⟨18, _⟩ => ⟨S8x128x512, .f32⟩
  | .local _ .vmem, ⟨19, _⟩ => ⟨S8x128x512, .f32⟩
  | .local _ .vmem, ⟨20, _⟩ => ⟨S8x128x512, .f32⟩
  | .local _ .vmem, ⟨21, _⟩ => ⟨S1024x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2879 : BitVec 32 := 0#32
  let c16_i32 : BitVec 32 := 16#32
  let v5039 : BitVec 32 := Scalar.addi c0_i32_2879 c16_i32
  let c1_i32 : BitVec 32 := 1#32
  ⟨c0_i32_2879, v5039, c1_i32⟩
def k0_mult1 (k0_t1 : Fin k0_t1_loop.trips) : BitVec 32 :=
  let c0_i32_2879 : BitVec 32 := 0#32
  let c1_i32 : BitVec 32 := 1#32
  let arg20 : BitVec 32 := Scf.iv c0_i32_2879 c1_i32 k0_t1
  let c128_i32 : BitVec 32 := 128#32
  let v5053 : BitVec 32 := Scalar.muli arg20 c128_i32
  v5053
def k0_off1 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5055 : Index := Scalar.indexCast arg20
  let c0_2896 : Index := 0#32
  let c0_2897 : Index := 0#32
  ![v5055.toNat, 0, 0]
def k0_off2 (k0_t1 : Fin k0_t1_loop.trips) : Fin 2 → Nat :=
  let c0_i32_2879 : BitVec 32 := 0#32
  let c1_i32 : BitVec 32 := 1#32
  let arg20 : BitVec 32 := Scf.iv c0_i32_2879 c1_i32 k0_t1
  let c128_i32 : BitVec 32 := 128#32
  let v5053 : BitVec 32 := Scalar.muli arg20 c128_i32
  let v5054 : BitVec 32 := v5053
  let v5058 : Index := Scalar.indexCast v5054
  let c0_2898 : Index := 0#32
  ![v5058.toNat, 0]
def k0_off3 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5061 : Index := Scalar.indexCast arg20
  let c0_2900 : Index := 0#32
  let c0_2901 : Index := 0#32
  ![v5061.toNat, 0, 0]
def k0_off4 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5065 : Index := Scalar.indexCast arg20
  let c0_2902 : Index := 0#32
  let c0_2903 : Index := 0#32
  ![v5065.toNat, 0, 0]
def k0_off5 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5161 : Index := Scalar.indexCast arg20
  let c0_2935 : Index := 0#32
  let c0_2936 : Index := 0#32
  ![v5161.toNat, 0, 0]
def k0_off6 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5165 : Index := Scalar.indexCast arg20
  let c0_2937 : Index := 0#32
  let c128_2938 : Index := 128#32
  ![v5165.toNat, 0, 128]
def k0_off7 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5261 : Index := Scalar.indexCast arg20
  let c0_2970 : Index := 0#32
  let c128_2971 : Index := 128#32
  ![v5261.toNat, 0, 128]
def k0_off8 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5265 : Index := Scalar.indexCast arg20
  let c0_2972 : Index := 0#32
  let c256_2973 : Index := 256#32
  ![v5265.toNat, 0, 256]
def k0_off9 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5361 : Index := Scalar.indexCast arg20
  let c0_3005 : Index := 0#32
  let c256_3006 : Index := 256#32
  ![v5361.toNat, 0, 256]
def k0_off10 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5365 : Index := Scalar.indexCast arg20
  let c0_3007 : Index := 0#32
  let c384_3008 : Index := 384#32
  ![v5365.toNat, 0, 384]
def k0_off11 (k0_t1 : Fin k0_t1_loop.trips) : Fin 3 → Nat :=
  let c0_i32_2879 : BitVec 32 := 0#32
  let c1_i32 : BitVec 32 := 1#32
  let arg20 : BitVec 32 := Scf.iv c0_i32_2879 c1_i32 k0_t1
  let v5461 : Index := Scalar.indexCast arg20
  let c0_3040 : Index := 0#32
  let c384_3041 : Index := 384#32
  ![v5461.toNat, 0, 384]
@[reducible] def k0_t2_loop : Scf.Loop 32 :=
  let c0_i32_2889 : BitVec 32 := 0#32
  let c8_i32_2890 : BitVec 32 := 8#32
  let v5048 : BitVec 32 := Scalar.addi c0_i32_2889 c8_i32_2890
  let c1_i32_2891 : BitVec 32 := 1#32
  ⟨c0_i32_2889, v5048, c1_i32_2891⟩
def k0_off12 (k0_t2 : Fin k0_t2_loop.trips) : Fin 3 → Nat :=
  let c2_i32 : BitVec 32 := 2#32
  let c0_i32_2889 : BitVec 32 := 0#32
  let c1_i32_2891 : BitVec 32 := 1#32
  let arg20 : BitVec 32 := Scf.iv c0_i32_2889 c1_i32_2891 k0_t2
  let v5053 : BitVec 32 := Scalar.muli c2_i32 arg20
  let v5054 : Index := Scalar.indexCast v5053
  let c0_2896 : Index := 0#32
  let c0_2897 : Index := 0#32
  ![v5054.toNat, 0, 0]
def k0_off13 (k0_t2 : Fin k0_t2_loop.trips) : Fin 3 → Nat :=
  let c2_i32_2898 : BitVec 32 := 2#32
  let c0_i32_2889 : BitVec 32 := 0#32
  let c1_i32_2891 : BitVec 32 := 1#32
  let arg20 : BitVec 32 := Scf.iv c0_i32_2889 c1_i32_2891 k0_t2
  let v5057 : BitVec 32 := Scalar.muli c2_i32_2898 arg20
  let c1_i32_2899 : BitVec 32 := 1#32
  let v5058 : BitVec 32 := Scalar.addi v5057 c1_i32_2899
  let v5059 : Index := Scalar.indexCast v5058
  let c0_2900 : Index := 0#32
  let c0_2901 : Index := 0#32
  ![v5059.toNat, 0, 0]
def k0_off14 (k0_t2 : Fin k0_t2_loop.trips) : Fin 3 → Nat :=
  let c2_i32_2934 : BitVec 32 := 2#32
  let c0_i32_2889 : BitVec 32 := 0#32
  let c1_i32_2891 : BitVec 32 := 1#32
  let arg20 : BitVec 32 := Scf.iv c0_i32_2889 c1_i32_2891 k0_t2
  let v5197 : BitVec 32 := Scalar.muli c2_i32_2934 arg20
  let v5198 : Index := Scalar.indexCast v5197
  let c0_2935 : Index := 0#32
  let c0_2936 : Index := 0#32
  ![v5198.toNat, 0, 0]
def k0_off15 (k0_t2 : Fin k0_t2_loop.trips) : Fin 3 → Nat :=
  let c2_i32_2937 : BitVec 32 := 2#32
  let c0_i32_2889 : BitVec 32 := 0#32
  let c1_i32_2891 : BitVec 32 := 1#32
  let arg20 : BitVec 32 := Scf.iv c0_i32_2889 c1_i32_2891 k0_t2
  let v5201 : BitVec 32 := Scalar.muli c2_i32_2937 arg20
  let c1_i32_2938 : BitVec 32 := 1#32
  let v5202 : BitVec 32 := Scalar.addi v5201 c1_i32_2938
  let v5203 : Index := Scalar.indexCast v5202
  let c0_2939 : Index := 0#32
  let c0_2940 : Index := 0#32
  ![v5203.toNat, 0, 0]
def k0_off16 (k0_t2 : Fin k0_t2_loop.trips) : Fin 3 → Nat :=
  let c0_i32_2889 : BitVec 32 := 0#32
  let c1_i32_2891 : BitVec 32 := 1#32
  let arg20 : BitVec 32 := Scf.iv c0_i32_2889 c1_i32_2891 k0_t2
  let v5209 : Index := Scalar.indexCast arg20
  let c0_2941 : Index := 0#32
  let c0_2942 : Index := 0#32
  ![v5209.toNat, 0, 0]
def k0_off17 (k0_t2 : Fin k0_t2_loop.trips) : Fin 3 → Nat :=
  let c2_i32_2947 : BitVec 32 := 2#32
  let c0_i32_2889 : BitVec 32 := 0#32
  let c1_i32_2891 : BitVec 32 := 1#32
  let arg20 : BitVec 32 := Scf.iv c0_i32_2889 c1_i32_2891 k0_t2
  let v5231 : BitVec 32 := Scalar.muli c2_i32_2947 arg20
  let v5232 : Index := Scalar.indexCast v5231
  let c0_2948 : Index := 0#32
  let c128_2949 : Index := 128#32
  ![v5232.toNat, 0, 128]
def k0_off18 (k0_t2 : Fin k0_t2_loop.trips) : Fin 3 → Nat :=
  let c2_i32_2950 : BitVec 32 := 2#32
  let c0_i32_2889 : BitVec 32 := 0#32
  let c1_i32_2891 : BitVec 32 := 1#32
  let arg20 : BitVec 32 := Scf.iv c0_i32_2889 c1_i32_2891 k0_t2
  let v5235 : BitVec 32 := Scalar.muli c2_i32_2950 arg20
  let c1_i32_2951 : BitVec 32 := 1#32
  let v5236 : BitVec 32 := Scalar.addi v5235 c1_i32_2951
  let v5237 : Index := Scalar.indexCast v5236
  let c0_2952 : Index := 0#32
  let c128_2953 : Index := 128#32
  ![v5237.toNat, 0, 128]
def k0_off19 (k0_t2 : Fin k0_t2_loop.trips) : Fin 3 → Nat :=
  let c2_i32_2986 : BitVec 32 := 2#32
  let c0_i32_2889 : BitVec 32 := 0#32
  let c1_i32_2891 : BitVec 32 := 1#32
  let arg20 : BitVec 32 := Scf.iv c0_i32_2889 c1_i32_2891 k0_t2
  let v5375 : BitVec 32 := Scalar.muli c2_i32_2986 arg20
  let v5376 : Index := Scalar.indexCast v5375
  let c0_2987 : Index := 0#32
  let c128_2988 : Index := 128#32
  ![v5376.toNat, 0, 128]
def k0_off20 (k0_t2 : Fin k0_t2_loop.trips) : Fin 3 → Nat :=
  let c2_i32_2989 : BitVec 32 := 2#32
  let c0_i32_2889 : BitVec 32 := 0#32
  let c1_i32_2891 : BitVec 32 := 1#32
  let arg20 : BitVec 32 := Scf.iv c0_i32_2889 c1_i32_2891 k0_t2
  let v5379 : BitVec 32 := Scalar.muli c2_i32_2989 arg20
  let c1_i32_2990 : BitVec 32 := 1#32
  let v5380 : BitVec 32 := Scalar.addi v5379 c1_i32_2990
  let v5381 : Index := Scalar.indexCast v5380
  let c0_2991 : Index := 0#32
  let c128_2992 : Index := 128#32
  ![v5381.toNat, 0, 128]
def k0_off21 (k0_t2 : Fin k0_t2_loop.trips) : Fin 3 → Nat :=
  let c0_i32_2889 : BitVec 32 := 0#32
  let c1_i32_2891 : BitVec 32 := 1#32
  let arg20 : BitVec 32 := Scf.iv c0_i32_2889 c1_i32_2891 k0_t2
  let v5387 : Index := Scalar.indexCast arg20
  let c0_2993 : Index := 0#32
  let c128_2994 : Index := 128#32
  ![v5387.toNat, 0, 128]
def k0_off22 (k0_t2 : Fin k0_t2_loop.trips) : Fin 3 → Nat :=
  let c2_i32_2999 : BitVec 32 := 2#32
  let c0_i32_2889 : BitVec 32 := 0#32
  let c1_i32_2891 : BitVec 32 := 1#32
  let arg20 : BitVec 32 := Scf.iv c0_i32_2889 c1_i32_2891 k0_t2
  let v5409 : BitVec 32 := Scalar.muli c2_i32_2999 arg20
  let v5410 : Index := Scalar.indexCast v5409
  let c0_3000 : Index := 0#32
  let c256_3001 : Index := 256#32
  ![v5410.toNat, 0, 256]
def k0_off23 (k0_t2 : Fin k0_t2_loop.trips) : Fin 3 → Nat :=
  let c2_i32_3002 : BitVec 32 := 2#32
  let c0_i32_2889 : BitVec 32 := 0#32
  let c1_i32_2891 : BitVec 32 := 1#32
  let arg20 : BitVec 32 := Scf.iv c0_i32_2889 c1_i32_2891 k0_t2
  let v5413 : BitVec 32 := Scalar.muli c2_i32_3002 arg20
  let c1_i32_3003 : BitVec 32 := 1#32
  let v5414 : BitVec 32 := Scalar.addi v5413 c1_i32_3003
  let v5415 : Index := Scalar.indexCast v5414
  let c0_3004 : Index := 0#32
  let c256_3005 : Index := 256#32
  ![v5415.toNat, 0, 256]
def k0_off24 (k0_t2 : Fin k0_t2_loop.trips) : Fin 3 → Nat :=
  let c2_i32_3038 : BitVec 32 := 2#32
  let c0_i32_2889 : BitVec 32 := 0#32
  let c1_i32_2891 : BitVec 32 := 1#32
  let arg20 : BitVec 32 := Scf.iv c0_i32_2889 c1_i32_2891 k0_t2
  let v5553 : BitVec 32 := Scalar.muli c2_i32_3038 arg20
  let v5554 : Index := Scalar.indexCast v5553
  let c0_3039 : Index := 0#32
  let c256_3040 : Index := 256#32
  ![v5554.toNat, 0, 256]
def k0_off25 (k0_t2 : Fin k0_t2_loop.trips) : Fin 3 → Nat :=
  let c2_i32_3041 : BitVec 32 := 2#32
  let c0_i32_2889 : BitVec 32 := 0#32
  let c1_i32_2891 : BitVec 32 := 1#32
  let arg20 : BitVec 32 := Scf.iv c0_i32_2889 c1_i32_2891 k0_t2
  let v5557 : BitVec 32 := Scalar.muli c2_i32_3041 arg20
  let c1_i32_3042 : BitVec 32 := 1#32
  let v5558 : BitVec 32 := Scalar.addi v5557 c1_i32_3042
  let v5559 : Index := Scalar.indexCast v5558
  let c0_3043 : Index := 0#32
  let c256_3044 : Index := 256#32
  ![v5559.toNat, 0, 256]
def k0_off26 (k0_t2 : Fin k0_t2_loop.trips) : Fin 3 → Nat :=
  let c0_i32_2889 : BitVec 32 := 0#32
  let c1_i32_2891 : BitVec 32 := 1#32
  let arg20 : BitVec 32 := Scf.iv c0_i32_2889 c1_i32_2891 k0_t2
  let v5565 : Index := Scalar.indexCast arg20
  let c0_3045 : Index := 0#32
  let c256_3046 : Index := 256#32
  ![v5565.toNat, 0, 256]
def k0_off27 (k0_t2 : Fin k0_t2_loop.trips) : Fin 3 → Nat :=
  let c2_i32_3051 : BitVec 32 := 2#32
  let c0_i32_2889 : BitVec 32 := 0#32
  let c1_i32_2891 : BitVec 32 := 1#32
  let arg20 : BitVec 32 := Scf.iv c0_i32_2889 c1_i32_2891 k0_t2
  let v5587 : BitVec 32 := Scalar.muli c2_i32_3051 arg20
  let v5588 : Index := Scalar.indexCast v5587
  let c0_3052 : Index := 0#32
  let c384_3053 : Index := 384#32
  ![v5588.toNat, 0, 384]
def k0_off28 (k0_t2 : Fin k0_t2_loop.trips) : Fin 3 → Nat :=
  let c2_i32_3054 : BitVec 32 := 2#32
  let c0_i32_2889 : BitVec 32 := 0#32
  let c1_i32_2891 : BitVec 32 := 1#32
  let arg20 : BitVec 32 := Scf.iv c0_i32_2889 c1_i32_2891 k0_t2
  let v5591 : BitVec 32 := Scalar.muli c2_i32_3054 arg20
  let c1_i32_3055 : BitVec 32 := 1#32
  let v5592 : BitVec 32 := Scalar.addi v5591 c1_i32_3055
  let v5593 : Index := Scalar.indexCast v5592
  let c0_3056 : Index := 0#32
  let c384_3057 : Index := 384#32
  ![v5593.toNat, 0, 384]
def k0_off29 (k0_t2 : Fin k0_t2_loop.trips) : Fin 3 → Nat :=
  let c2_i32_3090 : BitVec 32 := 2#32
  let c0_i32_2889 : BitVec 32 := 0#32
  let c1_i32_2891 : BitVec 32 := 1#32
  let arg20 : BitVec 32 := Scf.iv c0_i32_2889 c1_i32_2891 k0_t2
  let v5731 : BitVec 32 := Scalar.muli c2_i32_3090 arg20
  let v5732 : Index := Scalar.indexCast v5731
  let c0_3091 : Index := 0#32
  let c384_3092 : Index := 384#32
  ![v5732.toNat, 0, 384]
def k0_off30 (k0_t2 : Fin k0_t2_loop.trips) : Fin 3 → Nat :=
  let c2_i32_3093 : BitVec 32 := 2#32
  let c0_i32_2889 : BitVec 32 := 0#32
  let c1_i32_2891 : BitVec 32 := 1#32
  let arg20 : BitVec 32 := Scf.iv c0_i32_2889 c1_i32_2891 k0_t2
  let v5735 : BitVec 32 := Scalar.muli c2_i32_3093 arg20
  let c1_i32_3094 : BitVec 32 := 1#32
  let v5736 : BitVec 32 := Scalar.addi v5735 c1_i32_3094
  let v5737 : Index := Scalar.indexCast v5736
  let c0_3095 : Index := 0#32
  let c384_3096 : Index := 384#32
  ![v5737.toNat, 0, 384]
def k0_off31 (k0_t2 : Fin k0_t2_loop.trips) : Fin 3 → Nat :=
  let c0_i32_2889 : BitVec 32 := 0#32
  let c1_i32_2891 : BitVec 32 := 1#32
  let arg20 : BitVec 32 := Scf.iv c0_i32_2889 c1_i32_2891 k0_t2
  let v5743 : Index := Scalar.indexCast arg20
  let c0_3097 : Index := 0#32
  let c384_3098 : Index := 384#32
  ![v5743.toNat, 0, 384]
def k0_mult2 (i : grid0.Coords) : BitVec 32 :=
  let arg2 : BitVec 32 := BitVec.ofNat 32 (i 2).val
  let c8_i32 : BitVec 32 := 8#32
  let v3 : BitVec 32 := Scalar.muli arg2 c8_i32
  v3
def k0_off32 (i : grid0.Coords) : Fin 3 → Nat :=
  let c0_7 : Index := 0#32
  let arg2 : BitVec 32 := BitVec.ofNat 32 (i 2).val
  let c8_i32 : BitVec 32 := 8#32
  let v3 : BitVec 32 := Scalar.muli arg2 c8_i32
  let v4 : BitVec 32 := v3
  let v17 : Index := Scalar.indexCast v4
  let c0_8 : Index := 0#32
  ![0, v17.toNat, 0]
def k0_off33 (i : grid0.Coords) : Fin 3 → Nat :=
  let c1_17 : Index := 1#32
  let arg2 : BitVec 32 := BitVec.ofNat 32 (i 2).val
  let c8_i32 : BitVec 32 := 8#32
  let v3 : BitVec 32 := Scalar.muli arg2 c8_i32
  let v4 : BitVec 32 := v3
  let v35 : Index := Scalar.indexCast v4
  let c0_18 : Index := 0#32
  ![1, v35.toNat, 0]
def k0_off34 (i : grid0.Coords) : Fin 3 → Nat :=
  let c2 : Index := 2#32
  let arg2 : BitVec 32 := BitVec.ofNat 32 (i 2).val
  let c8_i32 : BitVec 32 := 8#32
  let v3 : BitVec 32 := Scalar.muli arg2 c8_i32
  let v4 : BitVec 32 := v3
  let v54 : Index := Scalar.indexCast v4
  let c0_27 : Index := 0#32
  ![2, v54.toNat, 0]
def k0_off35 (i : grid0.Coords) : Fin 3 → Nat :=
  let c3_36 : Index := 3#32
  let arg2 : BitVec 32 := BitVec.ofNat 32 (i 2).val
  let c8_i32 : BitVec 32 := 8#32
  let v3 : BitVec 32 := Scalar.muli arg2 c8_i32
  let v4 : BitVec 32 := v3
  let v73 : Index := Scalar.indexCast v4
  let c0_37 : Index := 0#32
  ![3, v73.toNat, 0]
def k0_off36 (i : grid0.Coords) : Fin 3 → Nat :=
  let c4 : Index := 4#32
  let arg2 : BitVec 32 := BitVec.ofNat 32 (i 2).val
  let c8_i32 : BitVec 32 := 8#32
  let v3 : BitVec 32 := Scalar.muli arg2 c8_i32
  let v4 : BitVec 32 := v3
  let v92 : Index := Scalar.indexCast v4
  let c0_46 : Index := 0#32
  ![4, v92.toNat, 0]
def k0_off37 (i : grid0.Coords) : Fin 3 → Nat :=
  let c5_55 : Index := 5#32
  let arg2 : BitVec 32 := BitVec.ofNat 32 (i 2).val
  let c8_i32 : BitVec 32 := 8#32
  let v3 : BitVec 32 := Scalar.muli arg2 c8_i32
  let v4 : BitVec 32 := v3
  let v111 : Index := Scalar.indexCast v4
  let c0_56 : Index := 0#32
  ![5, v111.toNat, 0]
def k0_off38 (i : grid0.Coords) : Fin 3 → Nat :=
  let c6 : Index := 6#32
  let arg2 : BitVec 32 := BitVec.ofNat 32 (i 2).val
  let c8_i32 : BitVec 32 := 8#32
  let v3 : BitVec 32 := Scalar.muli arg2 c8_i32
  let v4 : BitVec 32 := v3
  let v130 : Index := Scalar.indexCast v4
  let c0_65 : Index := 0#32
  ![6, v130.toNat, 0]
def k0_off39 (i : grid0.Coords) : Fin 3 → Nat :=
  let c7_74 : Index := 7#32
  let arg2 : BitVec 32 := BitVec.ofNat 32 (i 2).val
  let c8_i32 : BitVec 32 := 8#32
  let v3 : BitVec 32 := Scalar.muli arg2 c8_i32
  let v4 : BitVec 32 := v3
  let v149 : Index := Scalar.indexCast v4
  let c0_75 : Index := 0#32
  ![7, v149.toNat, 0]
def k0_off40 (i : grid0.Coords) : Fin 3 → Nat :=
  let c0_84 : Index := 0#32
  let arg2 : BitVec 32 := BitVec.ofNat 32 (i 2).val
  let c8_i32 : BitVec 32 := 8#32
  let v3 : BitVec 32 := Scalar.muli arg2 c8_i32
  let v4 : BitVec 32 := v3
  let v170 : Index := Scalar.indexCast v4
  let c128 : Index := 128#32
  ![0, v170.toNat, 128]
def k0_off41 (i : grid0.Coords) : Fin 3 → Nat :=
  let c1_94 : Index := 1#32
  let arg2 : BitVec 32 := BitVec.ofNat 32 (i 2).val
  let c8_i32 : BitVec 32 := 8#32
  let v3 : BitVec 32 := Scalar.muli arg2 c8_i32
  let v4 : BitVec 32 := v3
  let v188 : Index := Scalar.indexCast v4
  let c128_95 : Index := 128#32
  ![1, v188.toNat, 128]
def k0_off42 (i : grid0.Coords) : Fin 3 → Nat :=
  let c2_105 : Index := 2#32
  let arg2 : BitVec 32 := BitVec.ofNat 32 (i 2).val
  let c8_i32 : BitVec 32 := 8#32
  let v3 : BitVec 32 := Scalar.muli arg2 c8_i32
  let v4 : BitVec 32 := v3
  let v207 : Index := Scalar.indexCast v4
  let c128_106 : Index := 128#32
  ![2, v207.toNat, 128]
def k0_off43 (i : grid0.Coords) : Fin 3 → Nat :=
  let c3_116 : Index := 3#32
  let arg2 : BitVec 32 := BitVec.ofNat 32 (i 2).val
  let c8_i32 : BitVec 32 := 8#32
  let v3 : BitVec 32 := Scalar.muli arg2 c8_i32
  let v4 : BitVec 32 := v3
  let v226 : Index := Scalar.indexCast v4
  let c128_117 : Index := 128#32
  ![3, v226.toNat, 128]
def k0_off44 (i : grid0.Coords) : Fin 3 → Nat :=
  let c4_127 : Index := 4#32
  let arg2 : BitVec 32 := BitVec.ofNat 32 (i 2).val
  let c8_i32 : BitVec 32 := 8#32
  let v3 : BitVec 32 := Scalar.muli arg2 c8_i32
  let v4 : BitVec 32 := v3
  let v245 : Index := Scalar.indexCast v4
  let c128_128 : Index := 128#32
  ![4, v245.toNat, 128]
def k0_off45 (i : grid0.Coords) : Fin 3 → Nat :=
  let c5_138 : Index := 5#32
  let arg2 : BitVec 32 := BitVec.ofNat 32 (i 2).val
  let c8_i32 : BitVec 32 := 8#32
  let v3 : BitVec 32 := Scalar.muli arg2 c8_i32
  let v4 : BitVec 32 := v3
  let v264 : Index := Scalar.indexCast v4
  let c128_139 : Index := 128#32
  ![5, v264.toNat, 128]
def k0_off46 (i : grid0.Coords) : Fin 3 → Nat :=
  let c6_149 : Index := 6#32
  let arg2 : BitVec 32 := BitVec.ofNat 32 (i 2).val
  let c8_i32 : BitVec 32 := 8#32
  let v3 : BitVec 32 := Scalar.muli arg2 c8_i32
  let v4 : BitVec 32 := v3
  let v283 : Index := Scalar.indexCast v4
  let c128_150 : Index := 128#32
  ![6, v283.toNat, 128]
def k0_off47 (i : grid0.Coords) : Fin 3 → Nat :=
  let c7_160 : Index := 7#32
  let arg2 : BitVec 32 := BitVec.ofNat 32 (i 2).val
  let c8_i32 : BitVec 32 := 8#32
  let v3 : BitVec 32 := Scalar.muli arg2 c8_i32
  let v4 : BitVec 32 := v3
  let v302 : Index := Scalar.indexCast v4
  let c128_161 : Index := 128#32
  ![7, v302.toNat, 128]
def k0_off48 (i : grid0.Coords) : Fin 3 → Nat :=
  let c0_171 : Index := 0#32
  let arg2 : BitVec 32 := BitVec.ofNat 32 (i 2).val
  let c8_i32 : BitVec 32 := 8#32
  let v3 : BitVec 32 := Scalar.muli arg2 c8_i32
  let v4 : BitVec 32 := v3
  let v323 : Index := Scalar.indexCast v4
  let c256 : Index := 256#32
  ![0, v323.toNat, 256]
def k0_off49 (i : grid0.Coords) : Fin 3 → Nat :=
  let c1_181 : Index := 1#32
  let arg2 : BitVec 32 := BitVec.ofNat 32 (i 2).val
  let c8_i32 : BitVec 32 := 8#32
  let v3 : BitVec 32 := Scalar.muli arg2 c8_i32
  let v4 : BitVec 32 := v3
  let v341 : Index := Scalar.indexCast v4
  let c256_182 : Index := 256#32
  ![1, v341.toNat, 256]
def k0_off50 (i : grid0.Coords) : Fin 3 → Nat :=
  let c2_192 : Index := 2#32
  let arg2 : BitVec 32 := BitVec.ofNat 32 (i 2).val
  let c8_i32 : BitVec 32 := 8#32
  let v3 : BitVec 32 := Scalar.muli arg2 c8_i32
  let v4 : BitVec 32 := v3
  let v360 : Index := Scalar.indexCast v4
  let c256_193 : Index := 256#32
  ![2, v360.toNat, 256]
def k0_off51 (i : grid0.Coords) : Fin 3 → Nat :=
  let c3_203 : Index := 3#32
  let arg2 : BitVec 32 := BitVec.ofNat 32 (i 2).val
  let c8_i32 : BitVec 32 := 8#32
  let v3 : BitVec 32 := Scalar.muli arg2 c8_i32
  let v4 : BitVec 32 := v3
  let v379 : Index := Scalar.indexCast v4
  let c256_204 : Index := 256#32
  ![3, v379.toNat, 256]
def k0_off52 (i : grid0.Coords) : Fin 3 → Nat :=
  let c4_214 : Index := 4#32
  let arg2 : BitVec 32 := BitVec.ofNat 32 (i 2).val
  let c8_i32 : BitVec 32 := 8#32
  let v3 : BitVec 32 := Scalar.muli arg2 c8_i32
  let v4 : BitVec 32 := v3
  let v398 : Index := Scalar.indexCast v4
  let c256_215 : Index := 256#32
  ![4, v398.toNat, 256]
def k0_off53 (i : grid0.Coords) : Fin 3 → Nat :=
  let c5_225 : Index := 5#32
  let arg2 : BitVec 32 := BitVec.ofNat 32 (i 2).val
  let c8_i32 : BitVec 32 := 8#32
  let v3 : BitVec 32 := Scalar.muli arg2 c8_i32
  let v4 : BitVec 32 := v3
  let v417 : Index := Scalar.indexCast v4
  let c256_226 : Index := 256#32
  ![5, v417.toNat, 256]
def k0_off54 (i : grid0.Coords) : Fin 3 → Nat :=
  let c6_236 : Index := 6#32
  let arg2 : BitVec 32 := BitVec.ofNat 32 (i 2).val
  let c8_i32 : BitVec 32 := 8#32
  let v3 : BitVec 32 := Scalar.muli arg2 c8_i32
  let v4 : BitVec 32 := v3
  let v436 : Index := Scalar.indexCast v4
  let c256_237 : Index := 256#32
  ![6, v436.toNat, 256]
def k0_off55 (i : grid0.Coords) : Fin 3 → Nat :=
  let c7_247 : Index := 7#32
  let arg2 : BitVec 32 := BitVec.ofNat 32 (i 2).val
  let c8_i32 : BitVec 32 := 8#32
  let v3 : BitVec 32 := Scalar.muli arg2 c8_i32
  let v4 : BitVec 32 := v3
  let v455 : Index := Scalar.indexCast v4
  let c256_248 : Index := 256#32
  ![7, v455.toNat, 256]
def k0_off56 (i : grid0.Coords) : Fin 3 → Nat :=
  let c0_258 : Index := 0#32
  let arg2 : BitVec 32 := BitVec.ofNat 32 (i 2).val
  let c8_i32 : BitVec 32 := 8#32
  let v3 : BitVec 32 := Scalar.muli arg2 c8_i32
  let v4 : BitVec 32 := v3
  let v476 : Index := Scalar.indexCast v4
  let c384 : Index := 384#32
  ![0, v476.toNat, 384]
def k0_off57 (i : grid0.Coords) : Fin 3 → Nat :=
  let c1_268 : Index := 1#32
  let arg2 : BitVec 32 := BitVec.ofNat 32 (i 2).val
  let c8_i32 : BitVec 32 := 8#32
  let v3 : BitVec 32 := Scalar.muli arg2 c8_i32
  let v4 : BitVec 32 := v3
  let v494 : Index := Scalar.indexCast v4
  let c384_269 : Index := 384#32
  ![1, v494.toNat, 384]
def k0_off58 (i : grid0.Coords) : Fin 3 → Nat :=
  let c2_279 : Index := 2#32
  let arg2 : BitVec 32 := BitVec.ofNat 32 (i 2).val
  let c8_i32 : BitVec 32 := 8#32
  let v3 : BitVec 32 := Scalar.muli arg2 c8_i32
  let v4 : BitVec 32 := v3
  let v513 : Index := Scalar.indexCast v4
  let c384_280 : Index := 384#32
  ![2, v513.toNat, 384]
def k0_off59 (i : grid0.Coords) : Fin 3 → Nat :=
  let c3_290 : Index := 3#32
  let arg2 : BitVec 32 := BitVec.ofNat 32 (i 2).val
  let c8_i32 : BitVec 32 := 8#32
  let v3 : BitVec 32 := Scalar.muli arg2 c8_i32
  let v4 : BitVec 32 := v3
  let v532 : Index := Scalar.indexCast v4
  let c384_291 : Index := 384#32
  ![3, v532.toNat, 384]
def k0_off60 (i : grid0.Coords) : Fin 3 → Nat :=
  let c4_301 : Index := 4#32
  let arg2 : BitVec 32 := BitVec.ofNat 32 (i 2).val
  let c8_i32 : BitVec 32 := 8#32
  let v3 : BitVec 32 := Scalar.muli arg2 c8_i32
  let v4 : BitVec 32 := v3
  let v551 : Index := Scalar.indexCast v4
  let c384_302 : Index := 384#32
  ![4, v551.toNat, 384]
def k0_off61 (i : grid0.Coords) : Fin 3 → Nat :=
  let c5_312 : Index := 5#32
  let arg2 : BitVec 32 := BitVec.ofNat 32 (i 2).val
  let c8_i32 : BitVec 32 := 8#32
  let v3 : BitVec 32 := Scalar.muli arg2 c8_i32
  let v4 : BitVec 32 := v3
  let v570 : Index := Scalar.indexCast v4
  let c384_313 : Index := 384#32
  ![5, v570.toNat, 384]
def k0_off62 (i : grid0.Coords) : Fin 3 → Nat :=
  let c6_323 : Index := 6#32
  let arg2 : BitVec 32 := BitVec.ofNat 32 (i 2).val
  let c8_i32 : BitVec 32 := 8#32
  let v3 : BitVec 32 := Scalar.muli arg2 c8_i32
  let v4 : BitVec 32 := v3
  let v589 : Index := Scalar.indexCast v4
  let c384_324 : Index := 384#32
  ![6, v589.toNat, 384]
def k0_off63 (i : grid0.Coords) : Fin 3 → Nat :=
  let c7_334 : Index := 7#32
  let arg2 : BitVec 32 := BitVec.ofNat 32 (i 2).val
  let c8_i32 : BitVec 32 := 8#32
  let v3 : BitVec 32 := Scalar.muli arg2 c8_i32
  let v4 : BitVec 32 := v3
  let v608 : Index := Scalar.indexCast v4
  let c384_335 : Index := 384#32
  ![7, v608.toNat, 384]
def k0_cond2 (i : grid0.Coords) : BitVec 1 :=
  let arg2 : BitVec 32 := BitVec.ofNat 32 (i 2).val
  let c15_i32 : BitVec 32 := 15#32
  let v4985 : BitVec 1 := Scalar.cmpi .eq arg2 c15_i32
  let v4986 : BitVec 32 := Scalar.extui v4985
  let c0_i32_2847 : BitVec 32 := 0#32
  let v4987 : BitVec 1 := Scalar.cmpi .ne v4986 c0_i32_2847
  v4987

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Proof.Online.lean ====
/-
  Softmax one tile of keys after another, over the extended reals.

  A row of scores is cut into four tiles of 1024. The running maximum, the running denominator and the running
  weighted sum after the first `n` tiles are the maximum, the sum of exponentials and the weighted sum over the keys
  of those tiles, each exponential taken from the maximum so far; a further tile moves the three on by rescaling what
  stands. Nothing is asked of the scores here: a maximum of plus or minus infinity makes every factor zero on both
  sides. The last part is over the reals: two weighted sums divided by their denominators and subtracted are the
  weighted sum of the subtracted quotients.
-/
module

public import Idealize.ShloMosaic.PureOps.Ideal
public import Idealize.ShloMosaic.PureOps.Ideal.Laws
public import Idealize.ShloMosaic.Lib.IdealHost

@[expose] public section

noncomputable section

namespace Cert.Attn

open Idealize.ShloMosaic

theorem exp_nonneg (x : EReal) : 0 ≤ Ideal.exp x := by
  induction x using EReal.rec with
  | bot => exact le_rfl
  | top => exact le_top
  | coe r => exact EReal.coe_nonneg.2 (Real.exp_pos r).le

theorem exp_bot : Ideal.exp ⊥ = 0 := rfl
theorem exp_coe (r : ℝ) : Ideal.exp (r : EReal) = ((Real.exp r : ℝ) : EReal) := rfl

/-- An exponential of a difference of something not above is at most finite. -/
theorem exp_sub_ne_top {m n : EReal} (h : m ≤ n) : Ideal.exp (m - n) ≠ ⊤ := by
  induction n using EReal.rec with
  | bot => rw [le_bot_iff.1 h, EReal.bot_sub, exp_bot]; exact EReal.zero_ne_top
  | top => rw [EReal.sub_top, exp_bot]; exact EReal.zero_ne_top
  | coe y =>
    induction m using EReal.rec with
    | bot => rw [EReal.bot_sub, exp_bot]; exact EReal.zero_ne_top
    | top => exact absurd (top_le_iff.1 h) (EReal.coe_ne_top y)
    | coe x => rw [← EReal.coe_sub, exp_coe]; exact EReal.coe_ne_top _

/-- Moving an exponential from the maximum `m` to a later maximum `n`. -/
theorem exp_rescale {s m n : EReal} (hs : s ≤ m) (hn : m ≤ n) :
    Ideal.exp (m - n) * Ideal.exp (s - m) = Ideal.exp (s - n) := by
  induction n using EReal.rec with
  | bot => obtain rfl := le_bot_iff.1 hn; obtain rfl := le_bot_iff.1 hs; simp [exp_bot]
  | top => simp [EReal.sub_top, exp_bot]
  | coe y =>
    induction m using EReal.rec with
    | bot => obtain rfl := le_bot_iff.1 hs; simp [exp_bot]
    | top => exact absurd (top_le_iff.1 hn) (EReal.coe_ne_top y)
    | coe x =>
      induction s using EReal.rec with
      | bot => simp [EReal.bot_sub, exp_bot]
      | top => exact absurd (top_le_iff.1 hs) (EReal.coe_ne_top x)
      | coe z =>
        rw [← EReal.coe_sub, ← EReal.coe_sub, ← EReal.coe_sub, exp_coe, exp_coe, exp_coe, ← EReal.coe_mul, ← Real.exp_add]
        congr 2; ring

/-- A finite factor that is not negative goes into a sum, whatever the terms. -/
theorem scale_sum {ι : Type} (S : Finset ι) (f : ι → EReal) {c : EReal} (h0 : 0 ≤ c) (ht : c ≠ ⊤) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-! ## The running maximum, denominator and weighted sum -/

/-- A key by its tile and its place in the tile. -/
abbrev Key : Type := Fin 4 × Fin 1024

/-- The keys of the first `n` tiles. -/
def upto (n : ℕ) : Finset Key := Finset.univ.filter fun p => p.1.val < n

def top (s : Key → EReal) (n : ℕ) : EReal := (upto n).sup s
def den (s : Key → EReal) (n : ℕ) : EReal := ∑ p ∈ upto n, Ideal.exp (s p - top s n)
def num (s v : Key → EReal) (n : ℕ) : EReal := ∑ p ∈ upto n, Ideal.exp (s p - top s n) * v p

theorem upto_zero : upto 0 = ∅ := by simp [upto]
theorem upto_four : upto 4 = Finset.univ := by
  ext p; simp [upto]

/-- The keys of tile `b`. -/
def tile (b : Fin 4) : Finset Key := Finset.univ.map ⟨fun r : Fin 1024 => ((b, r) : Key), fun _ _ h => (Prod.mk.inj h).2⟩

theorem upto_succ (b : Fin 4) : upto (b.val + 1) = upto b.val ∪ tile b := by
  ext ⟨a, r⟩
  have h : (a, r) ∈ tile b ↔ b.val = a.val :=
    ⟨fun h => by obtain ⟨x, -, hx⟩ := Finset.mem_map.1 h; exact congrArg Fin.val (Prod.mk.inj hx).1,
      fun h => Finset.mem_map.2 ⟨r, Finset.mem_univ _, Prod.ext (Fin.ext h) rfl⟩⟩
  rw [Finset.mem_union, h]
  simp only [upto, Finset.mem_filter, Finset.mem_univ, true_and]
  omega

theorem upto_disjoint (b : Fin 4) : Disjoint (upto b.val) (tile b) := by
  rw [Finset.disjoint_left]
  rintro ⟨a, r⟩ h h'
  obtain ⟨x, -, hx⟩ := Finset.mem_map.1 h'
  have hb : b = a := (Prod.mk.inj hx).1
  have ha : a.val < b.val := (Finset.mem_filter.1 h).2
  exact absurd ha (by rw [hb]; exact lt_irrefl _)

theorem top_zero (s : Key → EReal) : top s 0 = ⊥ := by rw [top, upto_zero, Finset.sup_empty]
theorem den_zero (s : Key → EReal) : den s 0 = 0 := by rw [den, upto_zero, Finset.sum_empty]
theorem num_zero (s v : Key → EReal) : num s v 0 = 0 := by rw [num, upto_zero, Finset.sum_empty]

theorem top_succ (s : Key → EReal) (b : Fin 4) :
    top s (b.val + 1) = max (top s b.val) (Finset.univ.sup fun r : Fin 1024 => s (b, r)) := by
  rw [top, upto_succ, Finset.sup_union, tile, Finset.sup_map]; rfl

theorem top_le_succ (s : Key → EReal) (b : Fin 4) : top s b.val ≤ top s (b.val + 1) := by
  rw [top_succ]; exact le_max_left _ _

/-- A sum over one tile more, each earlier term rescaled to the new maximum. -/
theorem sum_succ (s v : Key → EReal) (b : Fin 4) :
    ∑ p ∈ upto (b.val + 1), Ideal.exp (s p - top s (b.val + 1)) * v p
      = Ideal.exp (top s b.val - top s (b.val + 1)) * (∑ p ∈ upto b.val, Ideal.exp (s p - top s b.val) * v p)
        + ∑ r : Fin 1024, Ideal.exp (s (b, r) - top s (b.val + 1)) * v (b, r) := by
  have hle := top_le_succ s b
  rw [scale_sum _ _ (exp_nonneg _) (exp_sub_ne_top hle)]
  generalize top s (b.val + 1) = n at *
  rw [upto_succ, Finset.sum_union (upto_disjoint b)]
  rw [tile, Finset.sum_map]
  refine congrArg₂ (· + ·) (Finset.sum_congr rfl fun p hp => ?_) rfl
  rw [← mul_assoc, exp_rescale (show s p ≤ top s b.val from Finset.le_sup hp) hle]

theorem num_succ (s v : Key → EReal) (b : Fin 4) :
    num s v (b.val + 1) = Ideal.exp (top s b.val - top s (b.val + 1)) * num s v b.val
      + ∑ r : Fin 1024, Ideal.exp (s (b, r) - top s (b.val + 1)) * v (b, r) := sum_succ s v b

theorem den_succ (s : Key → EReal) (b : Fin 4) :
    den s (b.val + 1) = Ideal.exp (top s b.val - top s (b.val + 1)) * den s b.val
      + ∑ r : Fin 1024, Ideal.exp (s (b, r) - top s (b.val + 1)) := by
  simpa only [mul_one, den] using sum_succ s (fun _ => 1) b

/-! ## The whole row, over the reals -/

theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, EReal.coe_add, ih]

/-- The maximum of finitely many reals (of at least one) is a real. -/
theorem sup_coe {ι : Type} [Fintype ι] [Nonempty ι] (f : ι → ℝ) : ∃ M : ℝ, (Finset.univ.sup fun i => (f i : EReal)) = (M : EReal) := by
  obtain ⟨i, -, hi⟩ := Finset.exists_mem_eq_sup Finset.univ Finset.univ_nonempty fun i => (f i : EReal)
  exact ⟨f i, hi⟩

/-- Over a row of real scores: the two weighted sums divided and subtracted are the sum of the weights
    divided and subtracted. -/
theorem differ {ι : Type} [Fintype ι] [Nonempty ι] (s t v : ι → EReal) (lam : EReal)
    (hs : ∀ i, ∃ x : ℝ, s i = x) (ht : ∀ i, ∃ x : ℝ, t i = x) (hv : ∀ i, ∃ x : ℝ, v i = x) (hl : ∃ x : ℝ, lam = x) :
    Ideal.div (∑ i, Ideal.exp (s i - Finset.univ.sup s) * v i) (∑ i, Ideal.exp (s i - Finset.univ.sup s))
      - lam * Ideal.div (∑ i, Ideal.exp (t i - Finset.univ.sup t) * v i) (∑ i, Ideal.exp (t i - Finset.univ.sup t))
    = ∑ i, (Ideal.div (Ideal.exp (s i - Finset.univ.sup s)) (∑ i, Ideal.exp (s i - Finset.univ.sup s))
        - lam * Ideal.div (Ideal.exp (t i - Finset.univ.sup t)) (∑ i, Ideal.exp (t i - Finset.univ.sup t))) * v i := by
  choose s' hs' using hs; choose t' ht' using ht; choose v' hv' using hv; obtain ⟨l, rfl⟩ := hl
  obtain rfl : s = fun i => (s' i : EReal) := funext hs'
  obtain rfl : t = fun i => (t' i : EReal) := funext ht'
  obtain rfl : v = fun i => (v' i : EReal) := funext hv'
  obtain ⟨M, hM⟩ := sup_coe s'
  obtain ⟨N, hN⟩ := sup_coe t'
  rw [hM, hN]
  have h0 : (0 : ℝ) ≠ ∑ i, Real.exp (s' i - M) := (Finset.sum_pos (fun i _ => Real.exp_pos _) Finset.univ_nonempty).ne
  have h1 : (0 : ℝ) ≠ ∑ i, Real.exp (t' i - N) := (Finset.sum_pos (fun i _ => Real.exp_pos _) Finset.univ_nonempty).ne
  simp only [← EReal.coe_sub, exp_coe, ← EReal.coe_mul, sum_coe, Ideal.div_coe h0.symm, Ideal.div_coe h1.symm]
  congr 1
  rw [Finset.sum_mul, Finset.sum_mul, Finset.mul_sum, ← Finset.sum_sub_distrib]
  refine Finset.sum_congr rfl fun i _ => ?_
  ring

end Cert.Attn

end
-- ==== Proof.Spec.lean ====
/-
  What both programs compute, written over a query's scores: the score of a query and a key, the normalised result of a
  weighted sum, and the order of the keys as four tiles of 1024.
-/
module

public import proofs.«01_k».proof.Proof.Online

@[expose] public section

noncomputable section
namespace Cert.Attn
open Idealize.ShloMosaic

/-- The key that is row `k.2` of tile `k.1`. -/
def key (k : Key) : Fin 4096 := ⟨1024 * k.1.val + k.2.val, by have := k.1.isLt; have := k.2.isLt; omega⟩

theorem key_bijective : Function.Bijective key := by
  constructor
  · rintro ⟨a, b⟩ ⟨c, d⟩ e
    have e := congrArg Fin.val e
    simp only [key] at e
    have := b.isLt; have := d.isLt
    exact Prod.ext (Fin.ext (by show a.val = c.val; omega)) (Fin.ext (by show b.val = d.val; omega))
  · intro k
    exact ⟨(⟨k.val / 1024, by omega⟩, ⟨k.val % 1024, by omega⟩), Fin.ext (by simp only [key]; omega)⟩

theorem sum_key (f : Fin 4096 → EReal) : ∑ k, f k = ∑ k : Key, f (key k) :=
  (Function.Bijective.sum_comp key_bijective f).symm

theorem sup_key (f : Fin 4096 → EReal) : Finset.univ.sup f = Finset.univ.sup fun k : Key => f (key k) := by
  apply le_antisymm
  · refine Finset.sup_le fun k _ => ?_
    obtain ⟨k', rfl⟩ := key_bijective.2 k
    exact Finset.le_sup (f := fun k : Key => f (key k)) (Finset.mem_univ k')
  · exact Finset.sup_le fun k _ => Finset.le_sup (f := f) (Finset.mem_univ (key k))

/-- Lane `x` of map `c` among the 64 lanes. -/
abbrev lane (c : Fin 2) (x : Fin 32) : Fin 64 := ⟨32 * c.val + x.val, by omega⟩

/-- The slope of head `h`. -/
def slope (h : ℕ) : ℝ := Real.rpow 2 (-2 * ((h : ℝ) + 1))

/-- The score of map `c` for a query and a key at a distance `y` (signed) from each other. -/
def score (h : ℕ) (y : ℝ) (c : Fin 2) (u v : Fin 64 → EReal) : EReal :=
  ∑ x : Fin 32, u (lane c x) * v (lane c x) + ((-slope h * |y| : ℝ) : EReal)

/-- The scores of query `q`, over the keys in tiles. -/
def scores (h : ℕ) (c : Fin 2) (q : ℕ) (u : Fin 64 → EReal) (v : Fin 4096 → Fin 64 → EReal) : Key → EReal :=
  fun k => score h ((q : ℝ) - ((key k).val : ℝ)) c u (v (key k))

/-- A weighted sum over the root of its mean square, times the weight and the constant. -/
def normed (o w : Fin 64 → EReal) (d : Fin 64) : EReal :=
  o d * Ideal.rsqrt (Ideal.div (∑ x : Fin 64, o x * o x) (Ideal.ofBits .f32 0x42800000#32) + Ideal.ofBits .f32 0x358637BD#32)
    * w d * Ideal.ofBits .f32 0x3F4CCCCD#32

/-- The weight of the second map. -/
def weight (a b c d : Fin 32 → EReal) : EReal :=
  Ideal.exp (∑ x, a x * b x) - Ideal.exp (∑ x, c x * d x) + Ideal.ofBits .f32 0x3E4CCCCD#32

/-- The softmax of a row. -/
def prob (s : Key → EReal) (k : Key) : EReal :=
  Ideal.div (Ideal.exp (s k - Finset.univ.sup s)) (∑ i, Ideal.exp (s i - Finset.univ.sup s))

/-- The sum over the keys under the weights of one map, over the sum of the weights. -/
def mean (s v : Key → EReal) : EReal :=
  Ideal.div (∑ i, Ideal.exp (s i - Finset.univ.sup s) * v i) (∑ i, Ideal.exp (s i - Finset.univ.sup s))

theorem mean_sub (s t v : Key → EReal) (lam : EReal) (hs : ∀ i, ∃ x : ℝ, s i = x) (ht : ∀ i, ∃ x : ℝ, t i = x)
    (hv : ∀ i, ∃ x : ℝ, v i = x) (hl : ∃ x : ℝ, lam = x) :
    mean s v - lam * mean t v = ∑ i, (prob s i - lam * prob t i) * v i :=
  differ s t v lam hs ht hv hl

/-- A product over the 64 lanes, the lanes of the second map set to zero. -/
theorem masked_zero (u v : Fin 64 → EReal) :
    ∑ d : Fin 64, (if d.val < 32 then u d else 0) * v d = ∑ x : Fin 32, u (lane 0 x) * v (lane 0 x) := by
  refine (Fin.sum_univ_add (a := 32) (b := 32) (fun d : Fin 64 => (if d.val < 32 then u d else 0) * v d)).trans ?_
  rw [Finset.sum_eq_zero (s := (Finset.univ : Finset (Fin 32))) (f := fun i => (if (Fin.natAdd 32 i).val < 32 then u (Fin.natAdd 32 i) else 0) * v (Fin.natAdd 32 i)), add_zero]
  · refine Finset.sum_congr rfl fun x _ => ?_
    rw [if_pos (by simp), show Fin.castAdd 32 x = lane 0 x from Fin.ext (by simp [lane])]
  · intro i _
    rw [if_neg (by simp), zero_mul]

/-- A product over the 64 lanes, the lanes of the first map set to zero. -/
theorem masked_one (u v : Fin 64 → EReal) :
    ∑ d : Fin 64, (if 32 ≤ d.val then u d else 0) * v d = ∑ x : Fin 32, u (lane 1 x) * v (lane 1 x) := by
  refine (Fin.sum_univ_add (a := 32) (b := 32) (fun d : Fin 64 => (if 32 ≤ d.val then u d else 0) * v d)).trans ?_
  rw [Finset.sum_eq_zero (s := (Finset.univ : Finset (Fin 32))) (f := fun i => (if 32 ≤ (Fin.castAdd 32 i).val then u (Fin.castAdd 32 i) else 0) * v (Fin.castAdd 32 i)), zero_add]
  · refine Finset.sum_congr rfl fun x _ => ?_
    rw [if_pos (by simp), show Fin.natAdd 32 x = lane 1 x from Fin.ext (by simp [lane, add_comm])]
  · intro i _
    rw [if_neg (by simp), zero_mul]

theorem toInt_nat (n : ℕ) (h : n < 2 ^ 31) : (BitVec.ofNat 32 n).toInt = (n : ℤ) := by
  rw [BitVec.toInt_eq_toNat_cond, BitVec.toNat_ofNat]
  split <;> omega

theorem toInt_ofNat (n : ℕ) (h : n < 2 ^ 31) : ((BitVec.ofNat 32 n).toInt : ℝ) = n := by
  rw [toInt_nat n h]
  norm_cast

theorem ofBits_two : Ideal.ofBits .f32 0x40000000#32 = ((2 : ℝ) : EReal) := by
  simp [Ideal.ofBits, Ideal.ieee]
  rw [← EReal.coe_mul]
  norm_num

theorem ofBits_neg_two : Ideal.ofBits .f32 0xC0000000#32 = ((-2 : ℝ) : EReal) := by
  simp [Ideal.ofBits, Ideal.ieee]
  rw [← EReal.coe_mul]
  norm_num

theorem ofBits_neg_eight : Ideal.ofBits .f32 0xC1000000#32 = ((-8 : ℝ) : EReal) := by
  simp [Ideal.ofBits, Ideal.ieee]
  rw [← EReal.coe_mul]
  norm_num

theorem ofBits_four : Ideal.ofBits .f32 0x40800000#32 = ((4 : ℝ) : EReal) := by
  simp [Ideal.ofBits, Ideal.ieee]
  rw [← EReal.coe_mul]
  norm_num

/-- The slope as the reference writes it. -/
theorem slope_pow (h : ℕ) : Ideal.pow ((2 : ℝ) : EReal) (Ideal.div (((-8 : ℝ) : EReal) * (((h : ℝ) : EReal) + 1)) ((4 : ℝ) : EReal)) = (slope h : EReal) := by
  rw [Ideal.div_coe (by norm_num), show (1 : EReal) = ((1 : ℝ) : EReal) from rfl, ← EReal.coe_add, ← EReal.coe_mul, ← EReal.coe_mul]
  show ((Real.rpow 2 _ : ℝ) : EReal) = _
  rw [slope]
  congr 2
  ring

/-- The slope as the kernel writes it. -/
theorem slope_exp2 (h : ℕ) : Ideal.exp2 (((-2 : ℝ) : EReal) * (((h : ℝ) : EReal) + 1)) = (slope h : EReal) := by
  rw [show (1 : EReal) = ((1 : ℝ) : EReal) from rfl, ← EReal.coe_add, ← EReal.coe_mul]
  rfl

/-- The absolute value of a real, as the greater of it and its negative. -/
theorem max_neg_coe (x : ℝ) : max (x : EReal) (-(x : EReal)) = ((|x| : ℝ) : EReal) := by
  rcases le_total 0 x with h | h
  · rw [abs_of_nonneg h, max_eq_left]
    rw [← EReal.coe_neg]
    exact EReal.coe_le_coe_iff.2 (by linarith)
  · rw [abs_of_nonpos h, max_eq_right, EReal.coe_neg]
    rw [← EReal.coe_neg]
    exact EReal.coe_le_coe_iff.2 (by linarith)

theorem scores_real {h : ℕ} {c : Fin 2} {q : ℕ} {u : Fin 64 → EReal} {v : Fin 4096 → Fin 64 → EReal}
    (hu : ∀ x, ∃ r : ℝ, u x = r) (hv : ∀ k x, ∃ r : ℝ, v k x = r) (k : Key) : ∃ r : ℝ, scores h c q u v k = r := by
  choose u' hu using hu
  choose v' hv using hv
  refine ⟨∑ x : Fin 32, u' (lane c x) * v' (key k) (lane c x) + -slope h * |(q : ℝ) - ((key k).val : ℝ)|, ?_⟩
  simp only [scores, score, hu, hv, ← EReal.coe_mul]
  rw [sum_coe, ← EReal.coe_add]

theorem weight_real {a b c d : Fin 32 → EReal} (ha : ∀ x, ∃ r : ℝ, a x = r) (hb : ∀ x, ∃ r : ℝ, b x = r)
    (hc : ∀ x, ∃ r : ℝ, c x = r) (hd : ∀ x, ∃ r : ℝ, d x = r) : ∃ r : ℝ, weight a b c d = r := by
  choose a' ha using ha
  choose b' hb using hb
  choose c' hc using hc
  choose d' hd using hd
  obtain ⟨e, he⟩ : ∃ r : ℝ, Ideal.ofBits .f32 0x3E4CCCCD#32 = (r : EReal) := ⟨_, by simp [Ideal.ofBits, Ideal.ieee]; rfl⟩
  refine ⟨Real.exp (∑ x, a' x * b' x) - Real.exp (∑ x, c' x * d' x) + e, ?_⟩
  simp only [weight, ha, hb, hc, hd, ← EReal.coe_mul, he]
  rw [sum_coe, sum_coe, exp_coe, exp_coe, ← EReal.coe_sub, ← EReal.coe_add]

end Cert.Attn

end
-- ==== Proof.Payloads.lean ====
/-
  What each step of a block computes at an index: the masked queries, the bias of a tile, the scores of a tile, and the
  running maximum, weight and weighted sum of a row after one tile more.
-/
module

public import proofs.«01_k».proof.Proof.Spec
public import proofs.«01_k».proof.Proof.Gen.KernelIdeal.Value
public import Idealize.ShloMosaic.Lib.Pipeline.Value
public import Idealize.ShloMosaic.Lib.Tactic
public import Idealize.ShloMosaic.Lib.Pointwise

@[expose] public section

set_option maxRecDepth 16384

noncomputable section
namespace Cert.KernelIdeal.Attn
open Cert.Attn Cert.KernelIdeal Cert.KernelIdeal.Gen Idealize.ShloMosaic Idealize.ShloMosaic.TcCoe Idealize.SL.Sem
open Idealize.ShloMosaic.Pipeline (Dat)

section
variable (v8 : FVec Ideal S256x64 .bf16) (v20 : FVec Ideal S1x1 .f32) (v28 : FVec Ideal S256x1024 .f32) (c0 c1 : BitVec 32)
  (t : Fin k0_t1_loop.trips) (m l : FVec Ideal S256x1 .f32) (a : FVec Ideal S256x64 .f32)
  (kb vb : Vec Ideal S1x1x1024x64 .bf16) (r : Fin 256) (d : Fin 64)

/-- The new running maximum of a row. -/
theorem max_at : k0_pay6 v8 v20 v28 c0 c1 t m kb (ix2 r 0)
    = max (m (ix2 r 0)) (Finset.univ.sup fun j : Fin 1024 => k0_pay5 v8 v20 v28 c0 c1 t kb (ix2 r j)) := by
  have hb : Ideal.ofBits .f32 0xFF800000#32 = ⊥ := by simp [Ideal.ofBits, Ideal.ieee]
  pointwise [k0_pay6]
  rw [hb]
  rfl

/-- The new sum of the weights of a row: the sum so far rescaled, and the tile's weights. -/
theorem den_at : k0_pay9 v8 v20 v28 c0 c1 t m l kb (ix2 r 0)
    = Ideal.exp (m (ix2 r 0) - k0_pay6 v8 v20 v28 c0 c1 t m kb (ix2 r 0)) * l (ix2 r 0)
      + ∑ j : Fin 1024, Ideal.exp (k0_pay5 v8 v20 v28 c0 c1 t kb (ix2 r j) - k0_pay6 v8 v20 v28 c0 c1 t m kb (ix2 r 0)) := by
  pointwise [k0_pay9, k0_pay8, k0_pay7]

/-- The new weighted sum of a row: the sum so far rescaled, and the tile's values under its weights. -/
theorem num_at : k0_pay10 v8 v20 v28 c0 c1 t m a kb vb (ix2 r d)
    = Ideal.exp (m (ix2 r 0) - k0_pay6 v8 v20 v28 c0 c1 t m kb (ix2 r 0)) * a (ix2 r d)
      + ∑ j : Fin 1024, Ideal.exp (k0_pay5 v8 v20 v28 c0 c1 t kb (ix2 r j) - k0_pay6 v8 v20 v28 c0 c1 t m kb (ix2 r 0)) * vb (ix4 0 0 j d) := by
  pointwise [k0_pay10, k0_pay8, k0_pay7, k0_pay3]

/-- The second map's steps are the first map's. -/
theorem max_second : k0_pay12 v8 v20 v28 c0 c1 t m kb = k0_pay6 v8 v20 v28 c0 c1 t m kb := rfl
theorem den_second : k0_pay25 m l (k0_pay12 v8 v20 v28 c0 c1 t m kb) (k0_pay13 v8 v20 v28 c0 c1 t m kb)
    = k0_pay9 v8 v20 v28 c0 c1 t m l kb := rfl
theorem num_second : k0_pay26 m a (k0_pay3 vb) (k0_pay12 v8 v20 v28 c0 c1 t m kb) (k0_pay13 v8 v20 v28 c0 c1 t m kb)
    = k0_pay10 v8 v20 v28 c0 c1 t m a kb vb := rfl

/-- A score of a tile: the product over the lanes, and the bias. -/
theorem score_at (j : Fin 1024) : k0_pay5 v8 v20 v28 c0 c1 t kb (ix2 r j)
    = ∑ x : Fin 64, v8 (ix2 r x) * kb (ix4 0 0 j x)
      + (0 - v20 (ix2 0 0)) * (FloatOps.absf (F := Ideal) (φ := .f32) (v28 (ix2 r j) - FloatOps.sitofp .f32 (Scalar.muli (Scf.iv c0 c1 t.val) 1024#32))) := by
  pointwise [k0_pay5, k0_pay4, k0_pay2]

/-- The queries with the second map's lanes set to zero. -/
theorem first_at (x0 : Vec Ideal S1x1x256x64 .bf16) : k0_pay16 x0 (ix2 r d) = if d.val < 32 then x0 (ix4 0 0 r d) else 0 := by
  have h : ∀ d : Fin 64, IntOp.cmpi .slt (BitVec.ofNat 32 d.val) 32#32 = if d.val < 32 then 1#1 else 0#1 := by decide
  pointwise [k0_pay16, k0_pay14, k0_pay15]
  rw [h]
  split <;> rfl

/-- The queries with the first map's lanes set to zero. -/
theorem second_at (x0 : Vec Ideal S1x1x256x64 .bf16) : k0_pay17 x0 (ix2 r d) = if 32 ≤ d.val then x0 (ix4 0 0 r d) else 0 := by
  have h : ∀ d : Fin 64, IntOp.cmpi .sge (BitVec.ofNat 32 d.val) 32#32 = if 32 ≤ d.val then 1#1 else 0#1 := by decide
  pointwise [k0_pay17, k0_pay14, k0_pay15]
  rw [h]
  split <;> rfl

/-- The slope of the block's head. -/
theorem slope_at (i : grid0.Coords) : k0_pay18 (F := Ideal) i (ix2 0 0) = (slope (i 1).val : EReal) := by
  have hi : (i 1).val < 4 := (i 1).isLt
  pointwise [k0_pay18]
  refine Eq.trans ?_ (slope_exp2 (i 1).val)
  rw [← toInt_ofNat (i 1).val (by omega), ← ofBits_neg_two]
  rfl

theorem toInt_place (r j : Fin 1024) (q : Fin 16) (b : Fin 4) :
    ((IntOp.addi (IntOp.subi (BitVec.ofNat 32 r.val) (BitVec.ofNat 32 j.val)) (Scalar.muli (BitVec.ofNat 32 q.val) 256#32)).toInt : ℤ) - (Scalar.muli (BitVec.ofNat 32 b.val) 1024#32).toInt
      = ((256 * q.val + r.val : ℕ) : ℤ) - ((1024 * b.val + j.val : ℕ) : ℤ) := by
  have e1 : IntOp.addi (IntOp.subi (BitVec.ofNat 32 r.val) (BitVec.ofNat 32 j.val)) (Scalar.muli (BitVec.ofNat 32 q.val) 256#32) = BitVec.ofInt 32 ((r.val : ℤ) - j.val + q.val * 256) := by
    show BitVec.ofNat 32 r.val - BitVec.ofNat 32 j.val + BitVec.ofNat 32 q.val * 256#32 = _
    apply BitVec.eq_of_toInt_eq
    simp [BitVec.toInt_add, BitVec.toInt_sub, BitVec.toInt_mul, BitVec.toInt_ofInt, toInt_nat r.val (by omega), toInt_nat j.val (by omega), toInt_nat q.val (by omega)]
  have e2 : Scalar.muli (BitVec.ofNat 32 b.val) 1024#32 = BitVec.ofInt 32 ((b.val : ℤ) * 1024) := by
    show BitVec.ofNat 32 b.val * 1024#32 = _
    apply BitVec.eq_of_toInt_eq
    simp [BitVec.toInt_mul, BitVec.toInt_ofInt, toInt_nat b.val (by omega)]
  rw [e1, e2, BitVec.toInt_ofInt, BitVec.toInt_ofInt, Int.bmod_eq_of_le (by omega) (by omega), Int.bmod_eq_of_le (by omega) (by omega)]
  push_cast
  omega

/-- The distance of a row of the block and a key of a tile. -/
theorem place_at (i : grid0.Coords) (j : Fin 1024) (b : Fin 4) :
    k0_pay19 (F := Ideal) i (ix2 r j) - FloatOps.sitofp .f32 (Scalar.muli (BitVec.ofNat 32 b.val) 1024#32)
      = (((((256 * (i 2).val + r.val : ℕ) : ℝ) - ((key (b, j)).val : ℝ) : ℝ)) : EReal) := by
  have e : k0_pay19 (F := Ideal) i (ix2 r j) = (((IntOp.addi (IntOp.subi (BitVec.ofNat 32 r.val) (BitVec.ofNat 32 j.val)) (Scalar.muli (BitVec.ofNat 32 (i 2).val) 256#32)).toInt : ℝ) : EReal) := by
    pointwise [k0_pay19]
    rfl
  have h := toInt_place ⟨r.val, by omega⟩ j ⟨(i 2).val, (i 2).isLt⟩ b
  have h := congrArg (Int.cast (R := ℝ)) h
  rw [e]
  show ((_ : ℝ) : EReal) - ((_ : ℝ) : EReal) = _
  rw [← EReal.coe_sub]
  push_cast at h
  congr 1
  simp only [key]
  push_cast
  exact h

/-- What a block writes at an index, from the sums its two maps end with. -/
theorem out_at (a0 a1 : FVec Ideal S256x64 .f32) (l0 l1 : FVec Ideal S256x1 .f32) (w1 w2 w3 w4 : FVec Ideal S1x32 .f32) (w : FVec Ideal S1x1x64 .f32) :
    k0_pay1 (k0_pay28 l0 a0 l1 a1 (k0_pay27 w1) w2 w3 w4 w) (ix4 0 0 r d)
      = normed (fun d => Ideal.div (a0 (ix2 r d)) (l0 (ix2 r 0))
          - weight (fun x => w1 (ix2 0 x)) (fun x => w2 (ix2 0 x)) (fun x => w3 (ix2 0 x)) (fun x => w4 (ix2 0 x)) * Ideal.div (a1 (ix2 r d)) (l1 (ix2 r 0)))
          (fun d => w (ix3 0 0 d)) d := by
  pointwise [k0_pay1, k0_pay28, k0_pay27]
  rfl

end
end Cert.KernelIdeal.Attn

end
-- ==== Proof.Block.lean ====
/-
  What one block computes: after `n` tiles of keys the carried values of a row are the maximum, the sum of the weights
  and the weighted sums of its scores over the keys of those tiles; what the block writes is the difference of its two
  means, normalised.
-/
module

public import proofs.«01_k».proof.Proof.Payloads
public import proofs.«01_k».proof.Proof.Gen.KernelIdeal.Value
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section
namespace Cert.KernelIdeal.Attn
open Cert.Attn Cert.KernelIdeal Cert.KernelIdeal.Gen Idealize.ShloMosaic Idealize.ShloMosaic.TcCoe Idealize.SL.Sem
open Idealize.ShloMosaic.Pipeline (Dat)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The carried values: for each map its maximum, its sum of weights and its weighted sum. -/
abbrev State : Type := FVec Ideal S256x1 .f32 × FVec Ideal S256x1 .f32 × FVec Ideal S256x64 .f32 × FVec Ideal S256x1 .f32 × FVec Ideal S256x1 .f32 × FVec Ideal S256x64 .f32

section
variable (c : Dev nD) (i : grid0.Coords) (arg3 : Memref sig .tc .vmem S1x1x256x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x1x64 .f32) (harg10 : arg10.IsWhole) (arg11 : Memref sig .tc .vmem S1x1x256x64 .f32) (harg11 : arg11.IsWhole)
  (x0 : Vec Ideal S1x1x256x64 .bf16) (x1 x2 : Vec Ideal S1x1x4096x64 .bf16) (x3 x4 x5 x6 : Vec Ideal S1x32 .f32) (x7 : Vec Ideal S1x1x64 .f32)
  (r : Fin 256) (d : Fin 64)

/-- The scores of map `m` at row `r` of the block, over the keys in tiles. -/
def row (m : Fin 2) : Key → EReal :=
  scores (i 1).val m (256 * (i 2).val + r.val) (fun x => x0 (ix4 0 0 r x)) (fun k x => x1 (ix4 0 0 k x))

/-- A lane of the values, over the keys in tiles. -/
def col : Key → EReal := fun k => x2 (ix4 0 0 (key k) d)

/-- Tile `b` of the keys (or of the values). -/
def tileOf (x : Vec Ideal S1x1x4096x64 .bf16) (b : Fin 4) : Vec Ideal S1x1x1024x64 .bf16 := fun j => x (ix4 0 0 (key (b, j 2)) (j 3))

theorem trips_eq : k0_t1_loop.trips = 4 := by decide

theorem tile_off : ∀ k : Fin 4, BitVec.toNat (Scalar.indexCast (Scalar.muli (Scf.iv 0#32 1#32 k.val) 1024#32)) = 1024 * k.val := by decide

theorem iv_eq : ∀ k : Fin 4, Scf.iv 0#32 1#32 k.val = BitVec.ofNat 32 k.val := by decide

theorem ld_tile (x : Vec Ideal S1x1x4096x64 .bf16) (k : Fin k0_t1_loop.trips) (b : Fin 4) (hb : b.val = k.val) (inb) :
    View.ld x (Rect.unit ![0, 0, BitVec.toNat (Scalar.indexCast (Scalar.muli (Scf.iv 0#32 1#32 k.val) 1024#32)), 0] ![1, 1, 1024, 64] inb) = tileOf x b := by
  funext j
  refine View.ld_unit_apply_of x _ _ inb j _ fun a => ?_
  have ho := tile_off b
  rw [hb] at ho
  match a with
  | ⟨0, _⟩ => exact (show (0 : ℕ) = 0 + (j 0).val by have : (j 0).val < 1 := (j 0).isLt; omega)
  | ⟨1, _⟩ => exact (show (0 : ℕ) = 0 + (j 1).val by have : (j 1).val < 1 := (j 1).isLt; omega)
  | ⟨2, _⟩ =>
    have e : 1024 * b.val = BitVec.toNat (Scalar.indexCast (Scalar.muli (Scf.iv 0#32 1#32 k.val) 1024#32)) := by rw [ho, hb]
    exact congrArg (· + (j 2).val) e
  | ⟨3, _⟩ => exact (show (j 3).val = 0 + (j 3).val by omega)

/-- The scores of tile `b` under the queries of map `m`. -/
theorem score_tile (v : FVec Ideal S256x64 .bf16) (m : Fin 2)
    (hv : ∀ j : Fin 4096, ∑ x : Fin 64, v (ix2 r x) * x1 (ix4 0 0 j x) = ∑ x : Fin 32, x0 (ix4 0 0 r (lane m x)) * x1 (ix4 0 0 j (lane m x)))
    (k : Fin k0_t1_loop.trips) (b : Fin 4) (hb : b.val = k.val) (j : Fin 1024) :
    k0_pay5 v (k0_pay18 i) (k0_pay19 i) 0#32 1#32 k (tileOf x1 b) (ix2 r j) = row i x0 x1 r m (b, j) := by
  rw [score_at, slope_at, ← hb, iv_eq, place_at, zero_sub]
  have e : ∑ x : Fin 64, v (ix2 r x) * tileOf x1 b (ix4 0 0 j x) = ∑ x : Fin 32, x0 (ix4 0 0 r (lane m x)) * x1 (ix4 0 0 (key (b, j)) (lane m x)) := hv (key (b, j))
  rw [e, row, scores, score]
  refine congrArg _ ?_
  show -(slope (i 1).val : EReal) * max _ (-_) = _
  rw [max_neg_coe, ← EReal.coe_neg, ← EReal.coe_mul]

theorem score_first (k : Fin k0_t1_loop.trips) (b : Fin 4) (hb : b.val = k.val) (j : Fin 1024) :
    k0_pay5 (k0_pay16 x0) (k0_pay18 i) (k0_pay19 i) 0#32 1#32 k (tileOf x1 b) (ix2 r j) = row i x0 x1 r 0 (b, j) := by
  refine score_tile i x0 x1 r _ 0 (fun j => ?_) k b hb j
  refine Eq.trans (Finset.sum_congr rfl fun x _ => ?_) (masked_zero (fun x => x0 (ix4 0 0 r x)) (fun x => x1 (ix4 0 0 j x)))
  rw [first_at]

theorem score_second (k : Fin k0_t1_loop.trips) (b : Fin 4) (hb : b.val = k.val) (j : Fin 1024) :
    k0_pay5 (k0_pay17 x0) (k0_pay18 i) (k0_pay19 i) 0#32 1#32 k (tileOf x1 b) (ix2 r j) = row i x0 x1 r 1 (b, j) := by
  refine score_tile i x0 x1 r _ 1 (fun j => ?_) k b hb j
  refine Eq.trans (Finset.sum_congr rfl fun x _ => ?_) (masked_one (fun x => x0 (ix4 0 0 r x)) (fun x => x1 (ix4 0 0 j x)))
  rw [second_at]

/-- One map of a row after `n` tiles. -/
def Holds (m l : FVec Ideal S256x1 .f32) (a : FVec Ideal S256x64 .f32) (s : Key → EReal) (n : ℕ) : Prop :=
  m (ix2 r 0) = top s n ∧ l (ix2 r 0) = den s n ∧ ∀ d : Fin 64, a (ix2 r d) = num s (col x2 d) n

/-- One tile more. -/
theorem holds_succ (v : FVec Ideal S256x64 .bf16) (m l : FVec Ideal S256x1 .f32) (a : FVec Ideal S256x64 .f32) (s : Key → EReal)
    (k : Fin k0_t1_loop.trips) (b : Fin 4) (hb : b.val = k.val)
    (hs : ∀ j : Fin 1024, k0_pay5 v (k0_pay18 i) (k0_pay19 i) 0#32 1#32 k (tileOf x1 b) (ix2 r j) = s (b, j))
    (h : Holds x2 r m l a s b.val) :
    Holds x2 r (k0_pay6 v (k0_pay18 i) (k0_pay19 i) 0#32 1#32 k m (tileOf x1 b)) (k0_pay9 v (k0_pay18 i) (k0_pay19 i) 0#32 1#32 k m l (tileOf x1 b))
      (k0_pay10 v (k0_pay18 i) (k0_pay19 i) 0#32 1#32 k m a (tileOf x1 b) (tileOf x2 b)) s (b.val + 1) := by
  obtain ⟨hm, hl, ha⟩ := h
  have e : k0_pay6 v (k0_pay18 i) (k0_pay19 i) 0#32 1#32 k m (tileOf x1 b) (ix2 r 0) = top s (b.val + 1) := by
    rw [max_at, hm, top_succ]
    exact congrArg _ (congrArg _ (funext hs))
  refine ⟨e, ?_, fun d => ?_⟩
  · rw [den_at, e, hm, hl, den_succ]
    exact congrArg _ (Finset.sum_congr rfl fun j _ => by rw [hs])
  · rw [num_at, e, hm, ha, num_succ]
    exact congrArg _ (Finset.sum_congr rfl fun j _ => by rw [hs]; rfl)

/-- The carried values after `n` tiles. -/
abbrev state (n : ℕ) : State :=
  st_k0_t1 (F := Ideal) Variants.none c none i arg3 harg3 arg4 harg4 arg5 harg5 arg6 harg6 arg7 harg7 arg8 harg8 arg9 harg9 arg10 harg10 arg11 harg11 x0 (harg4.unread x1) (harg5.unread x2) (k0_pay20, k0_pay21, k0_pay22, k0_pay20, k0_pay21, k0_pay22) n

theorem holds_zero (s : Key → EReal) : Holds x2 r k0_pay20 k0_pay21 k0_pay22 s 0 := by
  have hb : Ideal.ofBits .f32 0xFF800000#32 = ⊥ := by simp [Ideal.ofBits, Ideal.ieee]
  refine ⟨?_, ?_, fun d => ?_⟩
  · rw [top_zero]
    pointwise [k0_pay20]
    exact hb
  · rw [den_zero]
    pointwise [k0_pay21]
  · rw [num_zero]
    pointwise [k0_pay22]

theorem trip_eq (k : Fin k0_t1_loop.trips) (b : Fin 4) (hb : b.val = k.val) (acc : State) :
    tripR_k0_t1 (F := Ideal) Variants.none c none i arg3 harg3 arg4 harg4 arg5 harg5 arg6 harg6 arg7 harg7 arg8 harg8 arg9 harg9 arg10 harg10 arg11 harg11 x0 (harg4.unread x1) (harg5.unread x2) k acc
      = (k0_pay6 (k0_pay16 x0) (k0_pay18 i) (k0_pay19 i) 0#32 1#32 k acc.1 (tileOf x1 b),
        k0_pay9 (k0_pay16 x0) (k0_pay18 i) (k0_pay19 i) 0#32 1#32 k acc.1 acc.2.1 (tileOf x1 b),
        k0_pay10 (k0_pay16 x0) (k0_pay18 i) (k0_pay19 i) 0#32 1#32 k acc.1 acc.2.2.1 (tileOf x1 b) (tileOf x2 b),
        k0_pay6 (k0_pay17 x0) (k0_pay18 i) (k0_pay19 i) 0#32 1#32 k acc.2.2.2.1 (tileOf x1 b),
        k0_pay9 (k0_pay17 x0) (k0_pay18 i) (k0_pay19 i) 0#32 1#32 k acc.2.2.2.1 acc.2.2.2.2.1 (tileOf x1 b),
        k0_pay10 (k0_pay17 x0) (k0_pay18 i) (k0_pay19 i) 0#32 1#32 k acc.2.2.2.1 acc.2.2.2.2.2 (tileOf x1 b) (tileOf x2 b)) := by
  unfold tripR_k0_t1 trip_k0_t1
  dsimp only
  sl_unfold_words
  simp only [View.readAt_eq_ld, harg4.read_unread, harg5.read_unread]
  rw [den_second, num_second, max_second]
  exact congrArg₂ (fun (kb vb : Vec Ideal S1x1x1024x64 .bf16) => (k0_pay6 (k0_pay16 x0) (k0_pay18 i) (k0_pay19 i) 0#32 1#32 k acc.1 kb,
    k0_pay9 (k0_pay16 x0) (k0_pay18 i) (k0_pay19 i) 0#32 1#32 k acc.1 acc.2.1 kb,
    k0_pay10 (k0_pay16 x0) (k0_pay18 i) (k0_pay19 i) 0#32 1#32 k acc.1 acc.2.2.1 kb vb,
    k0_pay6 (k0_pay17 x0) (k0_pay18 i) (k0_pay19 i) 0#32 1#32 k acc.2.2.2.1 kb,
    k0_pay9 (k0_pay17 x0) (k0_pay18 i) (k0_pay19 i) 0#32 1#32 k acc.2.2.2.1 acc.2.2.2.2.1 kb,
    k0_pay10 (k0_pay17 x0) (k0_pay18 i) (k0_pay19 i) 0#32 1#32 k acc.2.2.2.1 acc.2.2.2.2.2 kb vb)) (ld_tile x1 k b hb _) (ld_tile x2 k b hb _)

/-- The carried values of a row after `n` tiles. -/
theorem state_holds (n : ℕ) (hn : n ≤ 4) :
    Holds x2 r (state c i arg3 harg3 arg4 harg4 arg5 harg5 arg6 harg6 arg7 harg7 arg8 harg8 arg9 harg9 arg10 harg10 arg11 harg11 x0 x1 x2 n).1
      (state c i arg3 harg3 arg4 harg4 arg5 harg5 arg6 harg6 arg7 harg7 arg8 harg8 arg9 harg9 arg10 harg10 arg11 harg11 x0 x1 x2 n).2.1
      (state c i arg3 harg3 arg4 harg4 arg5 harg5 arg6 harg6 arg7 harg7 arg8 harg8 arg9 harg9 arg10 harg10 arg11 harg11 x0 x1 x2 n).2.2.1 (row i x0 x1 r 0) n
    ∧ Holds x2 r (state c i arg3 harg3 arg4 harg4 arg5 harg5 arg6 harg6 arg7 harg7 arg8 harg8 arg9 harg9 arg10 harg10 arg11 harg11 x0 x1 x2 n).2.2.2.1
      (state c i arg3 harg3 arg4 harg4 arg5 harg5 arg6 harg6 arg7 harg7 arg8 harg8 arg9 harg9 arg10 harg10 arg11 harg11 x0 x1 x2 n).2.2.2.2.1
      (state c i arg3 harg3 arg4 harg4 arg5 harg5 arg6 harg6 arg7 harg7 arg8 harg8 arg9 harg9 arg10 harg10 arg11 harg11 x0 x1 x2 n).2.2.2.2.2 (row i x0 x1 r 1) n := by
  induction n with
  | zero =>
    rw [state, st_k0_t1_zero]
    exact ⟨holds_zero x2 r _, holds_zero x2 r _⟩
  | succ n ih =>
    have hk : n < k0_t1_loop.trips := by rw [trips_eq]; omega
    have e := st_k0_t1_succ (F := Ideal) Variants.none c none i arg3 harg3 arg4 harg4 arg5 harg5 arg6 harg6 arg7 harg7 arg8 harg8 arg9 harg9 arg10 harg10 arg11 harg11 x0 (harg4.unread x1) (harg5.unread x2) (k0_pay20, k0_pay21, k0_pay22, k0_pay20, k0_pay21, k0_pay22) ⟨n, hk⟩
    rw [trip_eq c i arg3 harg3 arg4 harg4 arg5 harg5 arg6 harg6 arg7 harg7 arg8 harg8 arg9 harg9 arg10 harg10 arg11 harg11 x0 x1 x2 ⟨n, hk⟩ ⟨n, by omega⟩ rfl] at e
    obtain ⟨h0, h1⟩ := ih (by omega)
    rw [state, e]
    exact ⟨holds_succ i x1 x2 r _ _ _ _ _ ⟨n, hk⟩ ⟨n, by omega⟩ rfl (score_first i x0 x1 r ⟨n, hk⟩ ⟨n, by omega⟩ rfl) h0,
      holds_succ i x1 x2 r _ _ _ _ _ ⟨n, hk⟩ ⟨n, by omega⟩ rfl (score_second i x0 x1 r ⟨n, hk⟩ ⟨n, by omega⟩ rfl) h1⟩

/-- What a block writes at an index. -/
theorem block_at : out0_A_8 c i arg3 harg3 arg4 harg4 arg5 harg5 arg6 harg6 arg7 harg7 arg8 harg8 arg9 harg9 arg10 harg10 arg11 harg11 x0 x1 x2 x3 x4 x5 x6 x7 (ix4 0 0 r d)
    = normed (fun d => mean (row i x0 x1 r 0) (col x2 d)
        - weight (fun x => x3 (ix2 0 x)) (fun x => x4 (ix2 0 x)) (fun x => x5 (ix2 0 x)) (fun x => x6 (ix2 0 x)) * mean (row i x0 x1 r 1) (col x2 d))
        (fun d => x7 (ix3 0 0 d)) d := by
  have ht : Scf.trips 0#32 (Scalar.addi 0#32 4#32) 1#32 = 4 := by decide
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero hz4]
  simp only [View.readAt_eq_ld, harg3.read_unread, harg6.read_unread, harg7.read_unread, harg8.read_unread, harg9.read_unread, harg10.read_unread, View.ld_unit_zero (S := S1x1x256x64) hz4, View.ld_unit_zero (S := S1x32) hz2, View.ld_unit_zero (S := S1x1x64) hz3]
  rw [out_at, ht]
  obtain ⟨⟨-, hl0, ha0⟩, -, hl1, ha1⟩ := state_holds c i arg3 harg3 arg4 harg4 arg5 harg5 arg6 harg6 arg7 harg7 arg8 harg8 arg9 harg9 arg10 harg10 arg11 harg11 x0 x1 x2 r 4 le_rfl
  have e : ∀ (s v : Key → EReal), Ideal.div (num s v 4) (den s 4) = mean s v := fun s v => by
    rw [num, den, top, upto_four, mean]
  refine congrFun (congrArg (fun o => normed o _) (funext fun d => ?_)) d
  rw [hl0, ha0, hl1, ha1, e, e]

end
end Cert.KernelIdeal.Attn

end
-- ==== Proof.Array.lean ====
/-
  What the result array holds after the run: every element the normalised difference of the two means, from the block
  whose query tile it lies in.
-/
module

public import proofs.«01_k».proof.Proof.Block
public import proofs.«01_k».proof.Proof.Gen.KernelIdeal.Value
public import Idealize.ShloMosaic.Lib.Pipeline.Value
public import Idealize.ShloMosaic.Lib.Tactic
public import Idealize.ShloMosaic.Lib.Pointwise

@[expose] public section

set_option maxRecDepth 16384

noncomputable section
namespace Cert.KernelIdeal.Attn
open Cert.Attn Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The grid point of a batch, a head and a tile of queries, and back. -/
theorem coords_at : ∀ t : Fin grid0.N, (grid0.coords t 0).val = t.val / 64 ∧ (grid0.coords t 1).val = t.val / 16 % 4 ∧ (grid0.coords t 2).val = t.val % 16 := by
  decide +kernel

theorem index_q : ∀ t : Fin grid0.N, win0_0.index t 0 = (grid0.coords t 0).val ∧ win0_0.index t 1 = (grid0.coords t 1).val ∧ win0_0.index t 2 = (grid0.coords t 2).val ∧ win0_0.index t 3 = 0 := by
  decide +kernel

theorem index_k : ∀ t : Fin grid0.N, win0_1.index t 0 = (grid0.coords t 0).val ∧ win0_1.index t 1 = (grid0.coords t 1).val ∧ win0_1.index t 2 = 0 ∧ win0_1.index t 3 = 0 := by
  decide +kernel

theorem index_v : ∀ t : Fin grid0.N, win0_2.index t 0 = (grid0.coords t 0).val ∧ win0_2.index t 1 = (grid0.coords t 1).val ∧ win0_2.index t 2 = 0 ∧ win0_2.index t 3 = 0 := by
  decide +kernel

theorem index_lam : ∀ t : Fin grid0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) := by
  decide +kernel

theorem index_w : ∀ t : Fin grid0.N, win0_7.index t 0 = (grid0.coords t 1).val ∧ win0_7.index t 1 = 0 ∧ win0_7.index t 2 = 0 := by
  decide +kernel

theorem index_o : ∀ t : Fin grid0.N, win0_8.index t 0 = (grid0.coords t 0).val ∧ win0_8.index t 1 = (grid0.coords t 1).val ∧ win0_8.index t 2 = (grid0.coords t 2).val ∧ win0_8.index t 3 = 0 := by
  decide +kernel

/-- A block's place: its batch, its head and a row's query. -/
abbrev bat (t : Fin grid0.N) : Fin 16 := ⟨(grid0.coords t 0).val, (grid0.coords t 0).isLt⟩
abbrev head (t : Fin grid0.N) : Fin 4 := ⟨(grid0.coords t 1).val, (grid0.coords t 1).isLt⟩
abbrev query (t : Fin grid0.N) (r : Fin 256) : Fin 4096 :=
  ⟨256 * (grid0.coords t 2).val + r.val, by have : (grid0.coords t 2).val < 16 := (grid0.coords t 2).isLt; omega⟩

theorem block_q (t : Fin grid0.N) (r : Fin 256) (x : Fin 64) :
    (iblk m c 0 t : Vec Ideal S1x1x256x64 .bf16) (ix4 0 0 r x) = m ((c : Thread nD τ).loc main_arg0) (ix4 (bat t) (head t) (query t r) x) := by
  unfold iblk
  rw [View.read_apply]
  show V m c main_arg0 _ = _
  rw [V_main_arg0]
  congr 1
  funext a
  obtain ⟨h0, h1, h2, h3⟩ := index_q t
  match a with
  | ⟨0, _⟩ => exact Fin.ext (by show win0_0.index t 0 * 1 + 1 * 0 = _; rw [h0]; simp)
  | ⟨1, _⟩ => exact Fin.ext (by show win0_0.index t 1 * 1 + 1 * 0 = _; rw [h1]; simp)
  | ⟨2, _⟩ => exact Fin.ext (by show win0_0.index t 2 * 256 + 1 * r.val = 256 * (grid0.coords t 2).val + r.val; rw [h2]; omega)
  | ⟨3, _⟩ => exact Fin.ext (by show win0_0.index t 3 * 64 + 1 * x.val = x.val; rw [h3]; omega)

theorem block_k (t : Fin grid0.N) (k : Fin 4096) (x : Fin 64) :
    (iblk m c 1 t : Vec Ideal S1x1x4096x64 .bf16) (ix4 0 0 k x) = m ((c : Thread nD τ).loc main_arg1) (ix4 (bat t) (head t) k x) := by
  unfold iblk
  rw [View.read_apply]
  show V m c main_arg1 _ = _
  rw [V_main_arg1]
  congr 1
  funext a
  obtain ⟨h0, h1, h2, h3⟩ := index_k t
  match a with
  | ⟨0, _⟩ => exact Fin.ext (by show win0_1.index t 0 * 1 + 1 * 0 = _; rw [h0]; simp)
  | ⟨1, _⟩ => exact Fin.ext (by show win0_1.index t 1 * 1 + 1 * 0 = _; rw [h1]; simp)
  | ⟨2, _⟩ => exact Fin.ext (by show win0_1.index t 2 * 4096 + 1 * k.val = k.val; rw [h2]; omega)
  | ⟨3, _⟩ => exact Fin.ext (by show win0_1.index t 3 * 64 + 1 * x.val = x.val; rw [h3]; omega)

theorem block_v (t : Fin grid0.N) (k : Fin 4096) (x : Fin 64) :
    (iblk m c 2 t : Vec Ideal S1x1x4096x64 .bf16) (ix4 0 0 k x) = m ((c : Thread nD τ).loc main_arg2) (ix4 (bat t) (head t) k x) := by
  unfold iblk
  rw [View.read_apply]
  show V m c main_arg2 _ = _
  rw [V_main_arg2]
  congr 1
  funext a
  obtain ⟨h0, h1, h2, h3⟩ := index_v t
  match a with
  | ⟨0, _⟩ => exact Fin.ext (by show win0_2.index t 0 * 1 + 1 * 0 = _; rw [h0]; simp)
  | ⟨1, _⟩ => exact Fin.ext (by show win0_2.index t 1 * 1 + 1 * 0 = _; rw [h1]; simp)
  | ⟨2, _⟩ => exact Fin.ext (by show win0_2.index t 2 * 4096 + 1 * k.val = k.val; rw [h2]; omega)
  | ⟨3, _⟩ => exact Fin.ext (by show win0_2.index t 3 * 64 + 1 * x.val = x.val; rw [h3]; omega)

/-- The reshaped vectors the last windows read. -/
theorem V_v0 : (V m c main_v0 : Vec Ideal S1x32 .f32) = shapeCast S1x32 (m ((c : Thread nD τ).loc main_arg3)) shapeCasts_S32_S1x32 := by
  unfold_abbrev_sides
  after_results
  rfl
theorem V_v1 : (V m c main_v1 : Vec Ideal S1x32 .f32) = shapeCast S1x32 (m ((c : Thread nD τ).loc main_arg4)) shapeCasts_S32_S1x32 := by
  unfold_abbrev_sides
  after_results
  rfl
theorem V_v2 : (V m c main_v2 : Vec Ideal S1x32 .f32) = shapeCast S1x32 (m ((c : Thread nD τ).loc main_arg5)) shapeCasts_S32_S1x32 := by
  unfold_abbrev_sides
  after_results
  rfl
theorem V_v3 : (V m c main_v3 : Vec Ideal S1x32 .f32) = shapeCast S1x32 (m ((c : Thread nD τ).loc main_arg6)) shapeCasts_S32_S1x32 := by
  unfold_abbrev_sides
  after_results
  rfl
theorem V_v4 : (V m c main_v4 : Vec Ideal S4x1x64 .f32) = shapeCast S4x1x64 (m ((c : Thread nD τ).loc main_arg7)) shapeCasts_S256_S4x1x64 := by
  unfold_abbrev_sides
  after_results
  rfl

theorem cast_w (y : FVec Ideal S256 .f32) (h : Fin 4) (x : Fin 64) :
    shapeCast S4x1x64 y shapeCasts_S256_S4x1x64 (ix3 h 0 x) = y (ix1 ⟨h.val * 64 + x.val, by omega⟩) := by
  pointwise

theorem block_w (t : Fin grid0.N) (x : Fin 64) :
    (iblk m c 7 t : Vec Ideal S1x1x64 .f32) (ix3 0 0 x) = m ((c : Thread nD τ).loc main_arg7) (ix1 ⟨(head t).val * 64 + x.val, by omega⟩) := by
  have e : (V m c main_v4 : Vec Ideal S4x1x64 .f32) (ix3 (head t) 0 x) = m ((c : Thread nD τ).loc main_arg7) (ix1 ⟨(head t).val * 64 + x.val, by omega⟩) := by
    rw [V_v4]
    exact cast_w _ (head t) x
  refine Eq.trans ?_ e
  unfold iblk
  rw [View.read_apply]
  show V m c main_v4 _ = V m c main_v4 _
  congr 1
  funext a
  obtain ⟨h0, h1, h2⟩ := index_w t
  match a with
  | ⟨0, _⟩ => exact Fin.ext (by show win0_7.index t 0 * 1 + 1 * 0 = _; rw [h0]; simp)
  | ⟨1, _⟩ => exact Fin.ext (by show win0_7.index t 1 * 1 + 1 * 0 = 0; rw [h1])
  | ⟨2, _⟩ => exact Fin.ext (by show win0_7.index t 2 * 64 + 1 * x.val = x.val; rw [h2]; omega)

theorem cast_row (y : FVec Ideal S32 .f32) (x : Fin 32) : shapeCast S1x32 y shapeCasts_S32_S1x32 (ix2 0 x) = y (ix1 x) := by
  pointwise

theorem block_3 (t : Fin grid0.N) (x : Fin 32) :
    (iblk m c 3 t : Vec Ideal S1x32 .f32) (ix2 0 x) = m ((c : Thread nD τ).loc main_arg3) (ix1 x) := by
  refine Eq.trans ?_ ((congrFun (V_v0 m c) (ix2 0 x)).trans (cast_row _ x))
  unfold iblk
  rw [View.read_apply]
  show V m c main_v0 _ = V m c main_v0 _
  congr 1
  funext a
  obtain ⟨⟨h0, h1⟩, -, -, -⟩ := index_lam t
  match a with
  | ⟨0, _⟩ => exact Fin.ext (by show win0_3.index t 0 * 1 + 1 * 0 = 0; rw [h0])
  | ⟨1, _⟩ => exact Fin.ext (by show win0_3.index t 1 * 32 + 1 * x.val = x.val; rw [h1]; omega)
theorem block_4 (t : Fin grid0.N) (x : Fin 32) :
    (iblk m c 4 t : Vec Ideal S1x32 .f32) (ix2 0 x) = m ((c : Thread nD τ).loc main_arg4) (ix1 x) := by
  refine Eq.trans ?_ ((congrFun (V_v1 m c) (ix2 0 x)).trans (cast_row _ x))
  unfold iblk
  rw [View.read_apply]
  show V m c main_v1 _ = V m c main_v1 _
  congr 1
  funext a
  obtain ⟨-, ⟨h0, h1⟩, -, -⟩ := index_lam t
  match a with
  | ⟨0, _⟩ => exact Fin.ext (by show win0_4.index t 0 * 1 + 1 * 0 = 0; rw [h0])
  | ⟨1, _⟩ => exact Fin.ext (by show win0_4.index t 1 * 32 + 1 * x.val = x.val; rw [h1]; omega)
theorem block_5 (t : Fin grid0.N) (x : Fin 32) :
    (iblk m c 5 t : Vec Ideal S1x32 .f32) (ix2 0 x) = m ((c : Thread nD τ).loc main_arg5) (ix1 x) := by
  refine Eq.trans ?_ ((congrFun (V_v2 m c) (ix2 0 x)).trans (cast_row _ x))
  unfold iblk
  rw [View.read_apply]
  show V m c main_v2 _ = V m c main_v2 _
  congr 1
  funext a
  obtain ⟨-, -, ⟨h0, h1⟩, -⟩ := index_lam t
  match a with
  | ⟨0, _⟩ => exact Fin.ext (by show win0_5.index t 0 * 1 + 1 * 0 = 0; rw [h0])
  | ⟨1, _⟩ => exact Fin.ext (by show win0_5.index t 1 * 32 + 1 * x.val = x.val; rw [h1]; omega)
theorem block_6 (t : Fin grid0.N) (x : Fin 32) :
    (iblk m c 6 t : Vec Ideal S1x32 .f32) (ix2 0 x) = m ((c : Thread nD τ).loc main_arg6) (ix1 x) := by
  refine Eq.trans ?_ ((congrFun (V_v3 m c) (ix2 0 x)).trans (cast_row _ x))
  unfold iblk
  rw [View.read_apply]
  show V m c main_v3 _ = V m c main_v3 _
  congr 1
  funext a
  obtain ⟨-, -, -, h0, h1⟩ := index_lam t
  match a with
  | ⟨0, _⟩ => exact Fin.ext (by show win0_6.index t 0 * 1 + 1 * 0 = 0; rw [h0])
  | ⟨1, _⟩ => exact Fin.ext (by show win0_6.index t 1 * 32 + 1 * x.val = x.val; rw [h1]; omega)

/-- The scores of map `a` at a query of a head, over the keys in tiles. -/
abbrev rowOf (b : Fin 16) (h : Fin 4) (q : Fin 4096) (a : Fin 2) : Key → EReal :=
  scores h.val a q.val (fun x => m ((c : Thread nD τ).loc main_arg0) (ix4 b h q x)) (fun k x => m ((c : Thread nD τ).loc main_arg1) (ix4 b h k x))

/-- A lane of the values of a head. -/
abbrev colOf (b : Fin 16) (h : Fin 4) (d : Fin 64) : Key → EReal := fun k => m ((c : Thread nD τ).loc main_arg2) (ix4 b h (key k) d)

/-- The kernel's lambda. -/
abbrev lamOf : EReal :=
  weight (fun x => m ((c : Thread nD τ).loc main_arg3) (ix1 x)) (fun x => m ((c : Thread nD τ).loc main_arg4) (ix1 x))
    (fun x => m ((c : Thread nD τ).loc main_arg5) (ix1 x)) (fun x => m ((c : Thread nD τ).loc main_arg6) (ix1 x))

/-- The value at an index of the result. -/
def value (b : Fin 16) (h : Fin 4) (q : Fin 4096) (d : Fin 64) : EReal :=
  normed (fun d => mean (rowOf m c b h q 0) (colOf m c b h d) - lamOf m c * mean (rowOf m c b h q 1) (colOf m c b h d))
    (fun d => m ((c : Thread nD τ).loc main_arg7) (ix1 ⟨h.val * 64 + d.val, by omega⟩)) d

/-- The result array. -/
def result : Buf (Elt Ideal) ((c : Thread nD τ).loc main_v5) := fun (j : S16x4x4096x64.Idx) => value m c (j 0) (j 1) (j 2) (j 3)

theorem flushed_at (t : Fin cfg0.N) (r : Fin 256) (d : Fin 64) :
    ((dats m 0 c).flushed 8 t : Vec Ideal S1x1x256x64 .f32) (ix4 0 0 r d) = value m c (bat t) (head t) (query t r) d := by
  rw [Value.flushed8_A]
  refine (block_at c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) r d).trans ?_
  have er : ∀ a, row (grid0.coords t) (iblk m c 0 t) (iblk m c 1 t) r a = rowOf m c (bat t) (head t) (query t r) a := fun a => by
    unfold row
    congr 1
    · exact funext fun x => block_q m c t r x
    · exact funext fun k => funext fun x => block_k m c t k x
  have ec : ∀ d, col (iblk m c 2 t) d = colOf m c (bat t) (head t) d := fun d => funext fun k => block_v m c t (key k) d
  simp only [er, ec, block_3, block_4, block_5, block_6, block_w]
  rfl

theorem flushed_eq (t : Fin cfg0.N) : (dats m 0 c).flushed 8 t = ((cfg0.win 8).blk t).view.read (Elt Ideal) (result m c) := by
  funext j
  obtain ⟨r, hr⟩ : ∃ r : Fin 256, r.val = (j 2).val := ⟨⟨(j 2).val, (j 2).isLt⟩, rfl⟩
  obtain ⟨d, hd⟩ : ∃ d : Fin 64, d.val = (j 3).val := ⟨⟨(j 3).val, (j 3).isLt⟩, rfl⟩
  have hj : (j : S1x1x256x64.Idx) = ix4 0 0 r d := by
    funext a
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
    | ⟨2, _⟩ => exact Fin.ext hr.symm
    | ⟨3, _⟩ => exact Fin.ext hd.symm
  rw [hj]
  refine (flushed_at m c t r d).trans ?_
  rw [View.read_apply]
  obtain ⟨h0, h1, h2, h3⟩ := index_o t
  show value m c _ _ _ _ = value m c _ _ _ _
  congr 1
  · exact Fin.ext (by show _ = win0_8.index t 0 * 1 + 1 * 0; rw [h0]; simp)
  · exact Fin.ext (by show _ = win0_8.index t 1 * 1 + 1 * 0; rw [h1]; simp)
  · exact Fin.ext (by show 256 * (grid0.coords t 2).val + r.val = win0_8.index t 2 * 256 + 1 * r.val; rw [h2]; omega)
  · exact Fin.ext (by show d.val = win0_8.index t 3 * 64 + 1 * d.val; rw [h3]; omega)

/-- The point whose block holds an index. -/
def pointOf (i : S16x4x4096x64.Idx) : Fin grid0.N :=
  ⟨(i 0).val * 64 + (i 1).val * 16 + (i 2).val / 256, by
    have h0 : (i 0).val < 16 := (i 0).isLt
    have h1 : (i 1).val < 4 := (i 1).isLt
    have h2 : (i 2).val < 4096 := (i 2).isLt
    have hN : grid0.N = 1024 := N_0
    omega⟩

theorem final : (dats m 0 c).arrAt 8 cfg0.N = result m c :=
  (dats m 0 c).arrAt_eq_of_cover 8 (result m c) (fun t _ => flushed_eq m c t) fun i =>
    ⟨pointOf i, flush0_8 _, by
      show i ∈ ((View.whole main_v5).slice (win0_8.rect (pointOf i))).set
      rw [View.set_slice_whole, Rect.mem_set_unit]
      intro a
      have h0 : (i 0 : Nat) < 16 := (i 0).isLt
      have h1 : (i 1 : Nat) < 4 := (i 1).isLt
      have h2 : (i 2 : Nat) < 4096 := (i 2).isLt
      have h3 : (i 3 : Nat) < 64 := (i 3).isLt
      obtain ⟨e0, e1, e2, e3⟩ := index_o (pointOf i)
      obtain ⟨c0, c1, c2⟩ := coords_at (pointOf i)
      have hp : (pointOf i).val = (i 0 : Nat) * 64 + (i 1 : Nat) * 16 + (i 2 : Nat) / 256 := rfl
      match a with
      | ⟨0, _⟩ => show win0_8.index (pointOf i) 0 * 1 ≤ (i 0 : Nat) ∧ (i 0 : Nat) < win0_8.index (pointOf i) 0 * 1 + 1
                  rw [e0, c0, hp]; omega
      | ⟨1, _⟩ => show win0_8.index (pointOf i) 1 * 1 ≤ (i 1 : Nat) ∧ (i 1 : Nat) < win0_8.index (pointOf i) 1 * 1 + 1
                  rw [e1, c1, hp]; omega
      | ⟨2, _⟩ => show win0_8.index (pointOf i) 2 * 256 ≤ (i 2 : Nat) ∧ (i 2 : Nat) < win0_8.index (pointOf i) 2 * 256 + 256
                  rw [e2, c2, hp]; omega
      | ⟨3, _⟩ => show win0_8.index (pointOf i) 3 * 64 ≤ (i 3 : Nat) ∧ (i 3 : Nat) < win0_8.index (pointOf i) 3 * 64 + 64
                  rw [e3]; omega⟩

end Cert.KernelIdeal.Attn

end
-- ==== Proof.RefValue.lean ====
/-
  The reference at an index: the scores of a query against every key, their softmax, the two maps subtracted and
  weighted with the values, and the normalised result.  Each stage is read from the stages before it, which stay closed.
-/
module

public import proofs.«01_k».proof.Proof.Online
public import proofs.«01_k».proof.Proof.Gen.ReferenceIdeal.Read
public import Idealize.ShloMosaic.Lib.Tactic
public import Idealize.ShloMosaic.Lib.Pointwise

@[expose] public section

set_option maxRecDepth 16384

noncomputable section
namespace Cert.ReferenceIdeal.Attn
open Cert.ReferenceIdeal Cert.ReferenceIdeal.Gen Cert.ReferenceIdeal.Read Idealize.ShloMosaic Idealize.ShloMosaic.TcCoe Idealize.SL.Sem

variable (x0 x1 x2 : FVec Ideal S16x4x4096x64 .bf16) (x3 x4 x5 x6 : FVec Ideal S32 .f32) (x7 : FVec Ideal S256 .f32)
variable (b : Fin 16) (h : Fin 4) (c : Fin 2) (q k : Fin 4096) (d : Fin 64)

/-- A score: the two 32-lane vectors of map `c` multiplied and summed, plus the bias of the distance. -/
theorem score_at : val_main_v42 (F := Ideal) x0 x1 (ix5 b h c q k)
    = ∑ x : Fin 32, x0 (ix4 b h q ⟨32 * c.val + x.val, by omega⟩) * x1 (ix4 b h k ⟨32 * c.val + x.val, by omega⟩)
      + val_main_v41 (F := Ideal) (ix5 b h c q k) := by
  rw [val_main_v42_apply, val_main_v39_apply]
  generalize val_main_v41 (F := Ideal) (ix5 b h c q k) = z
  refine congrArg (· + z) (Finset.sum_congr rfl fun x _ => ?_)
  pointwise [val_main_v5, val_main_v4, val_main_v3, val_main_v2, val_main_v1, val_main_v0]
  simp only [mul_comm 32]

/-- The slope of head `h`, as it is written. -/
theorem slope_at : val_main_v24 (F := Ideal) (ix1 h)
    = Ideal.pow (Ideal.ofBits .f32 0x40000000#32) (Ideal.div (Ideal.ofBits .f32 0xC1000000#32 * ((((BitVec.ofNat 32 h.val).toInt : ℝ) : EReal) + 1)) (Ideal.ofBits .f32 0x40800000#32)) := by
  pointwise [val_main_v24, val_main_v23, val_main_v22, val_main_v21, val_main_v20, val_main_v19, val_main_v18, val_main_v17, val_main_v16, val_main_v15, val_main_cst_2, val_main_cst_3, val_main_cst_4, val_main_cst_5]
  rfl

/-- The bias of a query and a key: minus the slope times their distance. -/
theorem bias_at : val_main_v41 (F := Ideal) (ix5 b h c q k)
    = -val_main_v24 (F := Ideal) (ix1 h) * (max ((((BitVec.ofNat 32 q.val).toInt : ℝ) : EReal) - (((BitVec.ofNat 32 k.val).toInt : ℝ) : EReal)) (-((((BitVec.ofNat 32 q.val).toInt : ℝ) : EReal) - (((BitVec.ofNat 32 k.val).toInt : ℝ) : EReal)))) := by
  unfold val_main_v41 val_main_v40 val_main_v38 val_main_v36 val_main_v28 val_main_v27
  generalize val_main_v24 (F := Ideal) = y
  pointwise [val_main_v37, val_main_v35, val_main_v34, val_main_v33, val_main_v32, val_main_v31, val_main_v30, val_main_v29, val_main_v26, val_main_v25]
  rfl

/-- The greatest score of a row. -/
theorem top_at : val_main_v45 (F := Ideal) x0 x1 (ix4 b h c q)
    = Finset.univ.sup fun x : Fin 4096 => val_main_v42 (F := Ideal) x0 x1 (ix5 b h c q x) := by
  rw [val_main_v45_apply]
  unfold val_main_v43
  generalize val_main_v42 (F := Ideal) x0 x1 = y
  have hd : Shape.Reduces S16x4x2x4096x4096 [4] S16x4x2x4096 := by decide
  have hi : ∀ x : Fin 4096, hd.lift (ix4 b h c q) x = ix5 b h c q x := fun x => by
    funext a; match a with | ⟨0, _⟩ => rfl | ⟨1, _⟩ => rfl | ⟨2, _⟩ => rfl | ⟨3, _⟩ => rfl | ⟨4, _⟩ => rfl
  have h0 : Host.reduce FloatOps.maximumf y (val_main_cst_6 (F := Ideal)) reducesTo_S16x4x2x4096x4096_S16x4x2x4096_d4 h_S_ (ix4 b h c q) = Finset.univ.fold (FloatOps.maximumf (F := Ideal) (φ := .f32)) (val_main_cst_6 (F := Ideal) (Shape.Idx.first h_S_)) (y ∘ hd.lift (ix4 b h c q)) :=
    Host.reduce_eq_fold_single (α := Elt Ideal .f32) (FloatOps.maximumf (F := Ideal) (φ := .f32)) y _ reducesTo_S16x4x2x4096x4096_S16x4x2x4096_d4 hd h_S_ _
  have e : (y ∘ hd.lift (ix4 b h c q)) = fun x : Fin 4096 => y (ix5 b h c q x) := funext fun x => congrArg y (hi x)
  rw [h0, e]
  have h1 : val_main_cst_6 (F := Ideal) (Shape.Idx.first h_S_) = (⊥ : EReal) := by
    show Ideal.ofBits .f32 0xFF800000#32 = ⊥
    simp [Ideal.ofBits, Ideal.ieee]
  have h2 : val_main_v44 (F := Ideal) (ix4 b h c q) = (⊥ : EReal) := by
    show Ideal.ofBits .f32 0xFF800000#32 = ⊥
    simp [Ideal.ofBits, Ideal.ieee]
  rw [h1, h2]
  exact bot_sup_eq _

/-- An exponential of a score, less the greatest of its row. -/
theorem exp_at : val_main_v49 (F := Ideal) x0 x1 (ix5 b h c q k)
    = Ideal.exp (val_main_v42 (F := Ideal) x0 x1 (ix5 b h c q k) - val_main_v45 (F := Ideal) x0 x1 (ix4 b h c q)) := by
  unfold val_main_v49 val_main_v48 val_main_v47 val_main_v46
  generalize val_main_v42 (F := Ideal) x0 x1 = y
  generalize val_main_v45 (F := Ideal) x0 x1 = z
  pointwise

/-- A probability: the exponential over the sum of its row. -/
theorem prob_at : val_main_v53 (F := Ideal) x0 x1 (ix5 b h c q k)
    = Ideal.div (val_main_v49 (F := Ideal) x0 x1 (ix5 b h c q k)) (∑ x : Fin 4096, val_main_v49 (F := Ideal) x0 x1 (ix5 b h c q x)) := by
  have hi : ∀ x : Fin 4096, idx_main_v50 (idx_main_v51 (idx_main_v52 (ix5 b h c q k))) x = ix5 b h c q x := fun x => by
    funext a; match a with | ⟨0, _⟩ => rfl | ⟨1, _⟩ => rfl | ⟨2, _⟩ => rfl | ⟨3, _⟩ => rfl | ⟨4, _⟩ => rfl
  rw [val_main_v53_apply, val_main_v52_apply, val_main_v51_apply, val_main_v50_apply]
  generalize val_main_v49 (F := Ideal) x0 x1 = y
  simp only [hi]
  pointwise [val_main_cst_8]

/-- The weight of the second map. -/
theorem lam_at : val_main_v14 (F := Ideal) x3 x4 x5 x6 ix0
    = Ideal.exp (∑ x, x3 (ix1 x) * x4 (ix1 x)) - Ideal.exp (∑ x, x5 (ix1 x) * x6 (ix1 x)) + Ideal.ofBits .f32 0x3E4CCCCD#32 := by
  pointwise [val_main_v14, val_main_v13, val_main_v12, val_main_v11, val_main_v10, val_main_v9, val_main_v8, val_main_v7, val_main_cst, val_main_cst_0, val_main_cst_1]

/-- The probabilities of the first map. -/
theorem first_at : val_main_v55 (F := Ideal) x0 x1 (ix4 b h q k) = val_main_v53 (F := Ideal) x0 x1 (ix5 b h 0 q k) := by
  unfold val_main_v55 val_main_v54
  generalize val_main_v53 (F := Ideal) x0 x1 = y
  pointwise

/-- The probabilities of the second map. -/
theorem second_at : val_main_v57 (F := Ideal) x0 x1 (ix4 b h q k) = val_main_v53 (F := Ideal) x0 x1 (ix5 b h 1 q k) := by
  unfold val_main_v57 val_main_v56
  generalize val_main_v53 (F := Ideal) x0 x1 = y
  pointwise

/-- The two maps subtracted and weighted with the values. -/
theorem mix_at : val_main_v61 (F := Ideal) x0 x1 x2 x3 x4 x5 x6 (ix4 b h q d)
    = ∑ x : Fin 4096, (val_main_v53 (F := Ideal) x0 x1 (ix5 b h 0 q x) - val_main_v14 (F := Ideal) x3 x4 x5 x6 ix0 * val_main_v53 (F := Ideal) x0 x1 (ix5 b h 1 q x)) * x2 (ix4 b h x d) := by
  have hl : ∀ x : Fin 4096, lidx_main_v61 (ix4 b h q d) x = ix4 b h q x := fun x => by
    funext a; match a with | ⟨0, _⟩ => rfl | ⟨1, _⟩ => rfl | ⟨2, _⟩ => rfl | ⟨3, _⟩ => rfl
  have hr : ∀ x : Fin 4096, ridx_main_v61 (ix4 b h q d) x = ix4 b h x d := fun x => by
    funext a; match a with | ⟨0, _⟩ => rfl | ⟨1, _⟩ => rfl | ⟨2, _⟩ => rfl | ⟨3, _⟩ => rfl
  have hz : ∀ i, idx_main_v58 i = ix0 := fun i => funext fun a => a.elim0
  rw [val_main_v61_apply]
  refine Finset.sum_congr rfl fun x _ => ?_
  rw [hl, hr, val_main_v60_apply, val_main_v59_apply, val_main_v58_apply, val_main_v6_apply, first_at, second_at, hz]
  generalize val_main_v53 (F := Ideal) x0 x1 = y
  generalize val_main_v14 (F := Ideal) x3 x4 x5 x6 = z
  rfl

/-- The result: the weighted sum over the root of its mean square, times the weight and the constant. -/
theorem out_at : val_main_v77 (F := Ideal) x0 x1 x2 x3 x4 x5 x6 x7 (ix4 b h q d)
    = val_main_v61 (F := Ideal) x0 x1 x2 x3 x4 x5 x6 (ix4 b h q d)
        * Ideal.rsqrt (Ideal.div (∑ x : Fin 64, val_main_v61 (F := Ideal) x0 x1 x2 x3 x4 x5 x6 (ix4 b h q x) * val_main_v61 (F := Ideal) x0 x1 x2 x3 x4 x5 x6 (ix4 b h q x)) (Ideal.ofBits .f32 0x42800000#32) + Ideal.ofBits .f32 0x358637BD#32)
        * x7 (ix1 ⟨h.val * 64 + d.val, by omega⟩) * Ideal.ofBits .f32 0x3F4CCCCD#32 := by
  have hi : ∀ x : Fin 64, idx_main_v63 (idx_main_v64 (idx_main_v70 (ix4 b h q d))) x = ix4 b h q x := fun x => by
    funext a; match a with | ⟨0, _⟩ => rfl | ⟨1, _⟩ => rfl | ⟨2, _⟩ => rfl | ⟨3, _⟩ => rfl
  have hw : val_main_v74 (F := Ideal) x7 (ix4 b h q d) = x7 (ix1 ⟨h.val * 64 + d.val, by omega⟩) := by
    pointwise [val_main_v74, val_main_v73, val_main_v72]
  have hs : ∀ x : Fin 64, val_main_v62 (F := Ideal) x0 x1 x2 x3 x4 x5 x6 (idx_main_v63 (idx_main_v64 (idx_main_v70 (ix4 b h q d))) x)
      = val_main_v61 (F := Ideal) x0 x1 x2 x3 x4 x5 x6 (ix4 b h q x) * val_main_v61 (F := Ideal) x0 x1 x2 x3 x4 x5 x6 (ix4 b h q x) := fun x => by
    rw [hi x, val_main_v62_apply]
    generalize val_main_v61 (F := Ideal) x0 x1 x2 x3 x4 x5 x6 = y
    rfl
  rw [val_main_v77_apply, val_main_v75_apply, val_main_v71_apply, val_main_v70_apply, val_main_v69_apply, val_main_v68_apply, val_main_v66_apply, val_main_v64_apply, val_main_v63_apply, hw, Finset.sum_congr rfl fun x _ => hs x]
  generalize val_main_v61 (F := Ideal) x0 x1 x2 x3 x4 x5 x6 = y
  pointwise [val_main_v76, val_main_v67, val_main_v65, val_main_cst_9, val_main_cst_10, val_main_cst_11, val_main_cst_12]

end Cert.ReferenceIdeal.Attn

end
-- ==== Proof.RefRow.lean ====
/-
  The reference's result at an index, over the scores of its query.
-/
module

public import proofs.«01_k».proof.Proof.Spec
public import proofs.«01_k».proof.Proof.RefValue

@[expose] public section

set_option maxRecDepth 16384

noncomputable section
namespace Cert.ReferenceIdeal.Attn
open Cert.Attn Cert.ReferenceIdeal Cert.ReferenceIdeal.Gen Cert.ReferenceIdeal.Read Idealize.ShloMosaic

variable (x0 x1 x2 : FVec Ideal S16x4x4096x64 .bf16) (x3 x4 x5 x6 : FVec Ideal S32 .f32) (x7 : FVec Ideal S256 .f32)
variable (b : Fin 16) (h : Fin 4) (c : Fin 2) (q k : Fin 4096) (d : Fin 64)

/-- The scores of map `c` at a query of a head, over the keys in tiles. -/
def row (b : Fin 16) (h : Fin 4) (q : Fin 4096) (c : Fin 2) : Key → EReal :=
  scores h.val c q.val (fun x => x0 (ix4 b h q x)) (fun k x => x1 (ix4 b h k x))

theorem bias_real : val_main_v41 (F := Ideal) (ix5 b h c q k) = ((-slope h.val * |(q.val : ℝ) - (k.val : ℝ)| : ℝ) : EReal) := by
  rw [bias_at, slope_at, toInt_ofNat _ (by omega), toInt_ofNat _ (by omega), toInt_ofNat _ (by omega), ofBits_two,
    ofBits_neg_eight, ofBits_four, slope_pow, ← EReal.coe_sub, max_neg_coe, ← EReal.coe_neg, ← EReal.coe_mul]

theorem score_row (k : Key) : val_main_v42 (F := Ideal) x0 x1 (ix5 b h c q (key k)) = row x0 x1 b h q c k := by
  rw [score_at, bias_real]
  rfl

theorem top_row : val_main_v45 (F := Ideal) x0 x1 (ix4 b h c q) = Finset.univ.sup (row x0 x1 b h q c) := by
  rw [top_at, sup_key]
  exact congrArg _ (funext fun k => score_row x0 x1 b h c q k)

theorem exp_row (k : Key) : val_main_v49 (F := Ideal) x0 x1 (ix5 b h c q (key k))
    = Ideal.exp (row x0 x1 b h q c k - Finset.univ.sup (row x0 x1 b h q c)) := by
  rw [exp_at, score_row, top_row]

theorem prob_row (k : Key) : val_main_v53 (F := Ideal) x0 x1 (ix5 b h c q (key k)) = prob (row x0 x1 b h q c) k := by
  rw [prob_at, exp_row, sum_key, Finset.sum_congr rfl fun k _ => exp_row x0 x1 b h c q k]
  rfl

/-- The reference's lambda. -/
def lam : EReal := weight (fun x => x3 (ix1 x)) (fun x => x4 (ix1 x)) (fun x => x5 (ix1 x)) (fun x => x6 (ix1 x))

theorem mix_row : val_main_v61 (F := Ideal) x0 x1 x2 x3 x4 x5 x6 (ix4 b h q d)
    = ∑ k : Key, (prob (row x0 x1 b h q 0) k - lam x3 x4 x5 x6 * prob (row x0 x1 b h q 1) k) * x2 (ix4 b h (key k) d) := by
  rw [mix_at, sum_key, lam_at]
  refine Finset.sum_congr rfl fun k _ => ?_
  rw [prob_row, prob_row]
  rfl

theorem out_row : val_main_v77 (F := Ideal) x0 x1 x2 x3 x4 x5 x6 x7 (ix4 b h q d)
    = normed (fun d => ∑ k : Key, (prob (row x0 x1 b h q 0) k - lam x3 x4 x5 x6 * prob (row x0 x1 b h q 1) k) * x2 (ix4 b h (key k) d))
        (fun d => x7 (ix1 ⟨h.val * 64 + d.val, by omega⟩)) d := by
  rw [out_at, Finset.sum_congr rfl fun x _ => by rw [mix_row], mix_row]
  rfl

end Cert.ReferenceIdeal.Attn

end
-- ==== Proof.Finite.lean ====
module

public import proofs.«01_k».proof.Proof.Gen.Pre_finite
public import Idealize.ShloMosaic.Lib.ReduceAll
public import Idealize.ShloMosaic.Lib.Affine
public import Idealize.ShloMosaic.Lib.Pointwise

@[expose] public section

set_option maxRecDepth 16384

/-! What the precondition says of an element: it is a real number. -/

noncomputable section
namespace Cert.Pre_finite.Attn
open Cert.Pre_finite Cert.Pre_finite.Facts Idealize.ShloMosaic

theorem real_of_below (x : EReal) (h : Ideal.cmp .olt (max x (-x)) ⊤ = 1#1) : ∃ r : ℝ, x = r := by
  have h' : max x (-x) < ⊤ := by
    by_contra hn
    simp [Ideal.cmp, hn] at h
  induction x using EReal.rec with
  | bot => simp at h'
  | coe r => exact ⟨r, rfl⟩
  | top => simp at h'

theorem top_word : Ideal.ofBits .f32 0x7F800000#32 = ⊤ := by simp [Ideal.ofBits, Ideal.ieee]

variable [hPre : Facts]

/-- One test of the conjunction, of an array of four axes. -/
theorem all_four (x : FVec Ideal S16x4x4096x64 .bf16) (j : S_.Idx)
    (h : Host.reduce IntOp.andi (cmpf .olt (Host.absf (extf .f32 x bitsLt_bf16_f32))
      (broadcastInDim S16x4x4096x64 ![] bcast_S_S16x4x4096x64 (constant (F := Ideal) S_ .f32 0x7F800000#32))) (constantI S_ 1 1#1)
      reducesTo_S16x4x4096x64_S_d0_1_2_3 h_S_ j = 1#1) (i : S16x4x4096x64.Idx) : ∃ r : ℝ, x i = r := by
  haveI : Subsingleton S_.Idx := ⟨fun a b => funext fun i => i.elim0⟩
  refine real_of_below (x i) ?_
  rw [← top_word]
  exact Host.reduce_andi_all _ _ _ _ j h i

/-- One test of the conjunction, of a vector. -/
theorem all_one (x : FVec Ideal S32 .f32) (j : S_.Idx)
    (h : Host.reduce IntOp.andi (cmpf .olt (Host.absf x) (broadcastInDim S32 ![] bcast_S_S32 (constant (F := Ideal) S_ .f32 0x7F800000#32)))
      (constantI S_ 1 1#1) reducesTo_S32_S_d0 h_S_ j = 1#1) (i : S32.Idx) : ∃ r : ℝ, x i = r := by
  haveI : Subsingleton S_.Idx := ⟨fun a b => funext fun i => i.elim0⟩
  refine real_of_below (x i) ?_
  rw [← top_word]
  exact Host.reduce_andi_all _ _ _ _ j h i

theorem real_of_finite (x0 x1 x2 : FVec Ideal S16x4x4096x64 .bf16) (x3 x4 x5 x6 : FVec Ideal S32 .f32) (x7 : FVec Ideal S256 .f32)
    (h : fn (F := Ideal) x0 x1 x2 x3 x4 x5 x6 x7 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) ∧ (∀ i, ∃ r : ℝ, x6 i = r) := by
  have h0 := congrFun h (fun i => i.elim0)
  obtain ⟨h5, g6⟩ := IntOp.andi_eq_one.1 h0
  obtain ⟨h4, g5⟩ := IntOp.andi_eq_one.1 h5
  obtain ⟨h3, g4⟩ := IntOp.andi_eq_one.1 h4
  obtain ⟨h2, g3⟩ := IntOp.andi_eq_one.1 h3
  obtain ⟨h1, g2⟩ := IntOp.andi_eq_one.1 h2
  obtain ⟨g0, g1⟩ := IntOp.andi_eq_one.1 h1
  exact ⟨all_four x0 _ g0, all_four x1 _ g1, all_four x2 _ g2, all_one x3 _ g3, all_one x4 _ g4, all_one x5 _ g5, all_one x6 _ g6⟩

end Cert.Pre_finite.Attn

end
-- ==== Proof.Equation.lean ====
module

public import proofs.«01_k».proof.Defs
public import proofs.«01_k».proof.Proof.Array
public import proofs.«01_k».proof.Proof.RefRow
public import proofs.«01_k».proof.Proof.Finite

@[expose] public section

set_option maxRecDepth 16384

/-! The kernel's result is the reference's: on real inputs the difference of the two means is the mean under the difference of the weights. -/

noncomputable section
namespace Cert.Attn
open Idealize.ShloMosaic Idealize.ShloMosaic.TcCoe Idealize.SL.Sem Cert.KernelIdeal Cert.KernelIdeal.Attn

attribute [local instance] Cert.Pre_finite.Gen.facts

theorem result_eq (m : (ℓ : Loc nD τ sig) → Buf (Elt Ideal) ℓ) (h : Cert.Pre_KernelIdeal_finite m) (c : Dev nD) :
    result m c = Cert.ReferenceIdeal.Read.val_main_v77 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  obtain ⟨f0, f1, f2, f3, f4, f5, f6⟩ := Cert.Pre_finite.Attn.real_of_finite _ _ _ _ _ _ _ _ (h c)
  funext (j : S16x4x4096x64.Idx)
  rw [eq_ix4 j]
  refine Eq.trans ?_ (Cert.ReferenceIdeal.Attn.out_row _ _ _ _ _ _ _ _ (j 0) (j 1) (j 2) (j 3)).symm
  show value m c (j 0) (j 1) (j 2) (j 3) = _
  unfold value
  congr 1
  funext d
  exact mean_sub _ _ _ _ (scores_real (fun x => f0 _) fun k x => f1 _) (scores_real (fun x => f0 _) fun k x => f1 _) (fun i => f2 _)
    (weight_real (fun x => f3 _) (fun x => f4 _) (fun x => f5 _) fun x => f6 _)

end Cert.Attn

end
-- ==== Proof.Layer.lean ====
/-
  The two ends of the layer at one token: the normalised, scaled and shifted row that the mixers read, and the sum of the
  gated mixer outputs that the merge multiplies by the output weights and adds to the residual.
-/
module

public import Idealize.ShloMosaic.PureOps.Ideal

@[expose] public section

set_option maxRecDepth 16384

noncomputable section
namespace Cert.Layer
open Idealize.ShloMosaic

/-- A row over the root of its mean square, weighted, scaled by one plus `sc` and shifted by `sh`. -/
def modulated (x w sc sh : Fin 1024 → EReal) (d : Fin 1024) : EReal :=
  x d * Ideal.rsqrt (Ideal.div (∑ k, x k * x k) (Ideal.ofBits .f32 0x44800000#32) + Ideal.ofBits .f32 0x358637BD#32) * w d * (1 + sc d) + sh d

/-- The row that the layer reads: the scale and the shift are the second and the first part of the condition. -/
def hidden (x w : Fin 1024 → EReal) (ada : Fin 6144 → EReal) : Fin 1024 → EReal :=
  modulated x w (fun k => ada ⟨1024 + k.val, by omega⟩) (fun k => ada ⟨k.val, by omega⟩)

/-- One branch: the gate of the row times the branch's output under its weights. -/
def branch (h wg : Fin 1024 → EReal) (bg : EReal) (y wb : Fin 256 → EReal) : EReal :=
  Ideal.logistic (∑ k, h k * wg k + bg) * ∑ k, y k * wb k

/-- The four branches added. -/
def mixed (h : Fin 1024 → EReal) (wg : Fin 4 → Fin 1024 → EReal) (bg : Fin 4 → EReal) (y wb : Fin 4 → Fin 256 → EReal) : EReal :=
  branch h (wg 0) (bg 0) (y 0) (wb 0) + branch h (wg 1) (bg 1) (y 1) (wb 1) + branch h (wg 2) (bg 2) (y 2) (wb 2) + branch h (wg 3) (bg 3) (y 3) (wb 3)

/-- The merge: the residual and the gated product of the mixed branches with the output weights. -/
def merged (x w : Fin 1024 → EReal) (ada : Fin 6144 → EReal) (wg : Fin 4 → Fin 1024 → Fin 1024 → EReal) (bg : Fin 4 → Fin 1024 → EReal)
    (y : Fin 4 → Fin 256 → EReal) (wb : Fin 4 → Fin 256 → Fin 1024 → EReal) (wo : Fin 1024 → Fin 1024 → EReal) (d : Fin 1024) : EReal :=
  x d + ada ⟨2048 + d.val, by omega⟩
    * ∑ j, mixed (hidden x w ada) (fun n k => wg n k j) (fun n => bg n j) y (fun n k => wb n k j) * wo j d

/-- The head and the lane of a feature of the attention's output, and back. -/
abbrev headOf (k : Fin 256) : Fin 4 := ⟨k.val / 64, by omega⟩
abbrev laneOf (k : Fin 256) : Fin 64 := ⟨k.val % 64, by omega⟩

/-- A sum over the features as four sums over the lanes of a head. -/
theorem sum_heads (y : Fin 4 → Fin 64 → EReal) (w : Fin 256 → EReal) :
    ∑ k, y (headOf k) (laneOf k) * w k = ∑ x : Fin 64, y 0 x * w ⟨0 + x.val, by omega⟩ + ∑ x : Fin 64, y 1 x * w ⟨64 + x.val, by omega⟩
      + ∑ x : Fin 64, y 2 x * w ⟨128 + x.val, by omega⟩ + ∑ x : Fin 64, y 3 x * w ⟨192 + x.val, by omega⟩ := by
  have e : ∑ k, y (headOf k) (laneOf k) * w k = ∑ a : Fin 4, ∑ x : Fin 64, y a x * w ⟨64 * a.val + x.val, by omega⟩ := by
    rw [← Fintype.sum_prod_type', ← Equiv.sum_comp (finProdFinEquiv (m := 4) (n := 64))]
    refine Finset.sum_congr rfl fun p _ => ?_
    obtain ⟨a, x⟩ := p
    have hk : (finProdFinEquiv (m := 4) (n := 64) (a, x)).val = x.val + 64 * a.val := rfl
    have h0 : headOf (finProdFinEquiv (a, x)) = a := Fin.ext (by show (finProdFinEquiv (m := 4) (n := 64) (a, x)).val / 64 = a.val; rw [hk]; omega)
    have h1 : laneOf (finProdFinEquiv (a, x)) = x := Fin.ext (by show (finProdFinEquiv (m := 4) (n := 64) (a, x)).val % 64 = x.val; rw [hk]; omega)
    rw [h0, h1]
    exact congrArg (fun k => y a x * w k) (Fin.ext (by rw [hk]; show x.val + 64 * a.val = 64 * a.val + x.val; omega))
  rw [e, Fin.sum_univ_four]
  rfl

/-- The columns of gate `n` among the gates side by side. -/
abbrev column (n : Fin 4) (d : Fin 1024) : Fin 4096 := ⟨1024 * n.val + d.val, by omega⟩

end Cert.Layer

end
-- ==== Proof.MergePayloads.lean ====
/-
  What each step of a block of the merge computes at an index: the normalised row, a gate, a branch's product, and the
  result.
-/
module

public import proofs.«01_k».proof.Proof.Layer
public import proofs.«01_k».proof.Proof.Gen.Kernel2Ideal.Value
public import Idealize.ShloMosaic.Lib.Pipeline.Value
public import Idealize.ShloMosaic.Lib.Tactic
public import Idealize.ShloMosaic.Lib.Pointwise

@[expose] public section

set_option maxRecDepth 16384

noncomputable section
namespace Cert.Kernel2Ideal.Merge
open Cert.Layer Cert.Kernel2Ideal Cert.Kernel2Ideal.Gen Idealize.ShloMosaic Idealize.ShloMosaic.TcCoe Idealize.SL.Sem
open Idealize.ShloMosaic.Pipeline (Dat)

section
variable (x : Vec Ideal S1x512x1024 .f32) (ada : Vec Ideal S1x1x6144 .f32) (nw : Vec Ideal S1x1024 .f32) (h : FVec Ideal S512x1024 .bf16)
  (wg wo : Vec Ideal S1024x1024 .bf16) (bg : Vec Ideal S1x1024 .f32) (y : Vec Ideal S1x512x256 .f32) (wb : Vec Ideal S1x256x1024 .bf16)
  (r : Fin 512) (d : Fin 1024)

/-- The normalised, scaled and shifted row. -/
theorem hidden_at : k0_pay4 x ada nw (ix2 r d) = hidden (fun k => x (ix3 0 r k)) (fun k => nw (ix2 0 k)) (fun k => ada (ix3 0 0 k)) d := by
  pointwise [k0_pay4, k0_pay3, k0_pay2]
  rfl

/-- The gate of the first branch. -/
theorem gate_first : k0_pay5 x ada nw wg bg (ix2 r d) = k0_pay8 (k0_pay4 x ada nw) wg bg (ix2 r d) := rfl

/-- A gate. -/
theorem gate_at : k0_pay8 h wg bg (ix2 r d) = Ideal.logistic (∑ k : Fin 1024, h (ix2 r k) * wg (ix2 k d) + bg (ix2 0 d)) := by
  pointwise [k0_pay8]

/-- The first branch. -/
theorem first_at (g : FVec Ideal S512x1024 .f32) : k0_pay7 g (k0_pay6 y) wb (ix2 r d) = g (ix2 r d) * ∑ k : Fin 256, y (ix3 0 r k) * wb (ix3 0 k d) := by
  pointwise [k0_pay7, k0_pay6]

/-- The first three branches: the attention's product is the sum of the products of its four heads. -/
theorem three_at (a g : FVec Ideal S512x1024 .f32) (y0 y1 y2 y3 : Vec Ideal S1x1x512x64 .f32) (w0 w1 w2 w3 : Vec Ideal S1x64x1024 .bf16) :
    k0_pay11 h a g (k0_pay9 y0 w0 y1 w1) (k0_pay10 y2) w2 y3 w3 wg bg y wb (ix2 r d)
      = a (ix2 r d)
        + g (ix2 r d) * (∑ k : Fin 64, y0 (ix4 0 0 r k) * w0 (ix3 0 k d) + ∑ k : Fin 64, y1 (ix4 0 0 r k) * w1 (ix3 0 k d)
            + ∑ k : Fin 64, y2 (ix4 0 0 r k) * w2 (ix3 0 k d) + ∑ k : Fin 64, y3 (ix4 0 0 r k) * w3 (ix3 0 k d))
        + Ideal.logistic (∑ k : Fin 1024, h (ix2 r k) * wg (ix2 k d) + bg (ix2 0 d)) * ∑ k : Fin 256, y (ix3 0 r k) * wb (ix3 0 k d) := by
  pointwise [k0_pay11, k0_pay10, k0_pay9]

/-- What a block writes at an index. -/
theorem out_at (a : FVec Ideal S512x1024 .f32) :
    k0_pay1 (k0_pay2 x) (k0_pay3 ada) a (k0_pay12 h wg) (k0_pay13 bg) y wb wo (ix3 0 r d)
      = x (ix3 0 r d) + ada (ix3 0 0 ⟨2048 + d.val, by omega⟩)
        * ∑ j : Fin 1024, (a (ix2 r j) + Ideal.logistic (∑ k : Fin 1024, h (ix2 r k) * wg (ix2 k j) + bg (ix2 0 j)) * ∑ k : Fin 256, y (ix3 0 r k) * wb (ix3 0 k j)) * wo (ix2 j d) := by
  pointwise [k0_pay1, k0_pay2, k0_pay3, k0_pay12, k0_pay13]

end
end Cert.Kernel2Ideal.Merge

end
-- ==== Proof.MergeBlock.lean ====
/-
  What a block of the merge writes, from the blocks of its operands.
-/
module

public import proofs.«01_k».proof.Proof.MergePayloads
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section
namespace Cert.Kernel2Ideal.Merge
open Cert.Layer Cert.Kernel2Ideal Cert.Kernel2Ideal.Gen Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : Vec Ideal S1x512x1024 .f32) (x1 : Vec Ideal S1x1x6144 .f32) (x2 : Vec Ideal S1x1024 .f32) (x3 x5 x6 : Vec Ideal S1x512x256 .f32)
  (x4 : Vec Ideal S1x4x512x64 .f32) (x7 : Vec Ideal S4x256x1024 .bf16) (x8 : Vec Ideal S1024x4096 .bf16) (x9 : Vec Ideal S1x4096 .f32) (x10 : Vec Ideal S1024x1024 .bf16)
  (r : Fin 512) (d : Fin 1024)

/-- The weights of gate `n` are a quarter of the columns. -/
theorem ld_gate (o : ℕ) (n : Fin 4) (hn : o = 1024 * n.val) (inb) (k j : Fin 1024) :
    View.ld x8 (Rect.unit (s := S1024x4096) ![0, o] S1024x1024.size inb) (ix2 k j) = x8 (ix2 k (column n j)) := by
  refine View.ld_unit_apply_of x8 _ _ inb _ _ fun a => ?_
  match a with
  | ⟨0, _⟩ => exact (show k.val = 0 + k.val by omega)
  | ⟨1, _⟩ => exact (show 1024 * n.val + j.val = o + j.val by omega)

theorem ld_bias (o : ℕ) (n : Fin 4) (hn : o = 1024 * n.val) (inb) (j : Fin 1024) :
    View.ld x9 (Rect.unit (s := S1x4096) ![0, o] S1x1024.size inb) (ix2 0 j) = x9 (ix2 0 (column n j)) := by
  refine View.ld_unit_apply_of x9 _ _ inb _ _ fun a => ?_
  match a with
  | ⟨0, _⟩ => exact (show (0 : ℕ) = 0 + 0 by omega)
  | ⟨1, _⟩ => exact (show 1024 * n.val + j.val = o + j.val by omega)

/-- The weights of branch `n`, and 64 rows of those of the attention. -/
theorem ld_branch (o : ℕ) (n : Fin 4) (hn : o = n.val) (inb) (k : Fin 256) (j : Fin 1024) :
    View.ld x7 (Rect.unit (s := S4x256x1024) ![o, 0, 0] S1x256x1024.size inb) (ix3 0 k j) = x7 (ix3 n k j) := by
  refine View.ld_unit_apply_of x7 _ _ inb _ _ fun a => ?_
  match a with
  | ⟨0, _⟩ => exact (show n.val = o + 0 by omega)
  | ⟨1, _⟩ => exact (show k.val = 0 + k.val by omega)
  | ⟨2, _⟩ => exact (show j.val = 0 + j.val by omega)

theorem ld_rows (o : ℕ) (ho : o + 64 ≤ 256) (inb) (k : Fin 64) (j : Fin 1024) :
    View.ld x7 (Rect.unit (s := S4x256x1024) ![1, o, 0] S1x64x1024.size inb) (ix3 0 k j) = x7 (ix3 1 ⟨o + k.val, by omega⟩ j) := by
  refine View.ld_unit_apply_of x7 _ _ inb _ _ fun a => ?_
  match a with
  | ⟨0, _⟩ => exact (show (1 : ℕ) = 1 + 0 by omega)
  | ⟨1, _⟩ => exact (show o + k.val = o + k.val by omega)
  | ⟨2, _⟩ => exact (show j.val = 0 + j.val by omega)

/-- The attention's output of head `h`. -/
theorem ld_head (o : ℕ) (h : Fin 4) (ho : o = h.val) (inb) (k : Fin 64) :
    View.ld x4 (Rect.unit (s := S1x4x512x64) ![0, o, 0, 0] S1x1x512x64.size inb) (ix4 0 0 r k) = x4 (ix4 0 h r k) := by
  refine View.ld_unit_apply_of x4 _ _ inb _ _ fun a => ?_
  match a with
  | ⟨0, _⟩ => exact (show (0 : ℕ) = 0 + 0 by omega)
  | ⟨1, _⟩ => exact (show h.val = o + 0 by omega)
  | ⟨2, _⟩ => exact (show r.val = 0 + r.val by omega)
  | ⟨3, _⟩ => exact (show k.val = 0 + k.val by omega)

/-- The output of branch `n` at a row of the block. -/
abbrev outOf : Fin 4 → Fin 256 → EReal := fun n => match n with
  | 0 => fun k => x3 (ix3 0 r k)
  | 1 => fun k => x4 (ix4 0 (headOf k) r (laneOf k))
  | 2 => fun k => x5 (ix3 0 r k)
  | 3 => fun k => x6 (ix3 0 r k)

/-- What a block writes at an index. -/
theorem block_at : out0_11 x0 x1 x2 x3 x4 x5 x6 x7 x8 x9 x10 (ix3 0 r d)
    = merged (fun k => x0 (ix3 0 r k)) (fun k => x2 (ix2 0 k)) (fun k => x1 (ix3 0 0 k)) (fun n k j => x8 (ix2 k (column n j))) (fun n j => x9 (ix2 0 (column n j)))
        (outOf x3 x5 x6 x4 r) (fun n k j => x7 (ix3 n k j)) (fun j d => x10 (ix2 j d)) d := by
  unfold out0_11 k0_pay14
  rw [View.canon_unit_zero hz3]
  simp only [View.ld_unit_zero (S := S1x512x1024) hz3, View.ld_unit_zero (S := S1x1x6144) hz3, View.ld_unit_zero (S := S1x1024) hz2, View.ld_unit_zero (S := S1x512x256) hz3,
    View.ld_unit_zero (S := S1024x1024) hz2]
  rw [out_at]
  simp only [three_at, first_at, gate_first, gate_at, hidden_at, ld_gate x8 0 0 rfl, ld_gate x8 1024 1 rfl, ld_gate x8 2048 2 rfl, ld_gate x8 3072 3 rfl,
    ld_bias x9 0 0 rfl, ld_bias x9 1024 1 rfl, ld_bias x9 2048 2 rfl, ld_bias x9 3072 3 rfl, ld_branch x7 0 0 rfl, ld_branch x7 2 2 rfl, ld_branch x7 3 3 rfl,
    ld_rows x7 0 (by decide), ld_rows x7 64 (by decide), ld_rows x7 128 (by decide), ld_rows x7 192 (by decide), ld_head x4 r 0 0 rfl, ld_head x4 r 1 1 rfl, ld_head x4 r 2 2 rfl, ld_head x4 r 3 3 rfl]
  unfold merged
  refine congrArg (fun s => x0 (ix3 0 r d) + x1 (ix3 0 0 ⟨2048 + d.val, by omega⟩) * s) (Finset.sum_congr rfl fun j _ => congrArg (· * x10 (ix2 j d)) ?_)
  unfold mixed
  have e := sum_heads (fun h x => x4 (ix4 0 h r x)) (fun k => x7 (ix3 1 k j))
  show _ = branch _ _ _ (fun k => x3 (ix3 0 r k)) _ + branch _ _ _ (fun k => x4 (ix4 0 (headOf k) r (laneOf k))) (fun k => x7 (ix3 1 k j)) + branch _ _ _ (fun k => x5 (ix3 0 r k)) _ + branch _ _ _ (fun k => x6 (ix3 0 r k)) _
  unfold branch
  rw [e]

end
end Cert.Kernel2Ideal.Merge

end
-- ==== Proof.MergeArray.lean ====
/-
  What the result array of the merge holds after the run: every element the residual and the merge of its token, from the
  block whose tokens hold it.
-/
module

public import proofs.«01_k».proof.Proof.MergeBlock
public import proofs.«01_k».proof.Proof.Gen.Kernel2Ideal.Value
public import Idealize.ShloMosaic.Lib.Pipeline.Value
public import Idealize.ShloMosaic.Lib.Tactic
public import Idealize.ShloMosaic.Lib.Pointwise

@[expose] public section

set_option maxRecDepth 16384

noncomputable section
namespace Cert.Kernel2Ideal.Merge
open Cert.Layer Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem coords_at : ∀ t : Fin grid0.N, (grid0.coords t 0).val = t.val / 8 ∧ (grid0.coords t 1).val = t.val % 8 := by
  decide +kernel

theorem index_x : ∀ t : Fin grid0.N, win0_0.index t 0 = (grid0.coords t 0).val ∧ win0_0.index t 1 = (grid0.coords t 1).val ∧ win0_0.index t 2 = 0 := by
  decide +kernel

theorem index_ada : ∀ t : Fin grid0.N, win0_1.index t 0 = (grid0.coords t 0).val ∧ win0_1.index t 1 = 0 ∧ win0_1.index t 2 = 0 := by
  decide +kernel

theorem index_hy : ∀ t : Fin grid0.N, win0_3.index t 0 = (grid0.coords t 0).val ∧ win0_3.index t 1 = (grid0.coords t 1).val ∧ win0_3.index t 2 = 0 := by
  decide +kernel

theorem index_da : ∀ t : Fin grid0.N, win0_4.index t 0 = (grid0.coords t 0).val ∧ win0_4.index t 1 = 0 ∧ win0_4.index t 2 = (grid0.coords t 1).val ∧ win0_4.index t 3 = 0 := by
  decide +kernel

theorem index_ret : ∀ t : Fin grid0.N, win0_5.index t 0 = (grid0.coords t 0).val ∧ win0_5.index t 1 = (grid0.coords t 1).val ∧ win0_5.index t 2 = 0 := by
  decide +kernel

theorem index_ssm : ∀ t : Fin grid0.N, win0_6.index t 0 = (grid0.coords t 0).val ∧ win0_6.index t 1 = (grid0.coords t 1).val ∧ win0_6.index t 2 = 0 := by
  decide +kernel

theorem index_whole : ∀ t : Fin grid0.N, (win0_2.index t 0 = 0 ∧ win0_2.index t 1 = 0) ∧ (win0_7.index t 0 = 0 ∧ win0_7.index t 1 = 0 ∧ win0_7.index t 2 = 0)
    ∧ (win0_8.index t 0 = 0 ∧ win0_8.index t 1 = 0) ∧ (win0_9.index t 0 = 0 ∧ win0_9.index t 1 = 0) ∧ (win0_10.index t 0 = 0 ∧ win0_10.index t 1 = 0) := by
  decide +kernel

theorem index_o : ∀ t : Fin grid0.N, win0_11.index t 0 = (grid0.coords t 0).val ∧ win0_11.index t 1 = (grid0.coords t 1).val ∧ win0_11.index t 2 = 0 := by
  decide +kernel

/-- A block's place: its batch and a row's token. -/
abbrev bat (t : Fin grid0.N) : Fin 16 := ⟨(grid0.coords t 0).val, (grid0.coords t 0).isLt⟩
abbrev token (t : Fin grid0.N) (r : Fin 512) : Fin 4096 :=
  ⟨512 * (grid0.coords t 1).val + r.val, by have : (grid0.coords t 1).val < 8 := (grid0.coords t 1).isLt; omega⟩

theorem block_x (t : Fin grid0.N) (r : Fin 512) (x : Fin 1024) :
    (iblk m c 0 t : Vec Ideal S1x512x1024 .f32) (ix3 0 r x) = m ((c : Thread nD τ).loc main_arg0) (ix3 (bat t) (token t r) x) := by
  unfold iblk
  rw [View.read_apply]
  show V m c main_arg0 _ = _
  rw [V_main_arg0]
  congr 1
  funext a
  obtain ⟨h0, h1, h2⟩ := index_x t
  match a with
  | ⟨0, _⟩ => exact Fin.ext (by show win0_0.index t 0 * 1 + 1 * 0 = _; rw [h0]; simp)
  | ⟨1, _⟩ => exact Fin.ext (by show win0_0.index t 1 * 512 + 1 * r.val = 512 * (grid0.coords t 1).val + r.val; rw [h1]; omega)
  | ⟨2, _⟩ => exact Fin.ext (by show win0_0.index t 2 * 1024 + 1 * x.val = x.val; rw [h2]; omega)

theorem block_hy (t : Fin grid0.N) (r : Fin 512) (x : Fin 256) :
    (iblk m c 3 t : Vec Ideal S1x512x256 .f32) (ix3 0 r x) = m ((c : Thread nD τ).loc main_arg3) (ix3 (bat t) (token t r) x) := by
  unfold iblk
  rw [View.read_apply]
  show V m c main_arg3 _ = _
  rw [V_main_arg3]
  congr 1
  funext a
  obtain ⟨h0, h1, h2⟩ := index_hy t
  match a with
  | ⟨0, _⟩ => exact Fin.ext (by show win0_3.index t 0 * 1 + 1 * 0 = _; rw [h0]; simp)
  | ⟨1, _⟩ => exact Fin.ext (by show win0_3.index t 1 * 512 + 1 * r.val = 512 * (grid0.coords t 1).val + r.val; rw [h1]; omega)
  | ⟨2, _⟩ => exact Fin.ext (by show win0_3.index t 2 * 256 + 1 * x.val = x.val; rw [h2]; omega)

theorem block_ret (t : Fin grid0.N) (r : Fin 512) (x : Fin 256) :
    (iblk m c 5 t : Vec Ideal S1x512x256 .f32) (ix3 0 r x) = m ((c : Thread nD τ).loc main_arg5) (ix3 (bat t) (token t r) x) := by
  unfold iblk
  rw [View.read_apply]
  show V m c main_arg5 _ = _
  rw [V_main_arg5]
  congr 1
  funext a
  obtain ⟨h0, h1, h2⟩ := index_ret t
  match a with
  | ⟨0, _⟩ => exact Fin.ext (by show win0_5.index t 0 * 1 + 1 * 0 = _; rw [h0]; simp)
  | ⟨1, _⟩ => exact Fin.ext (by show win0_5.index t 1 * 512 + 1 * r.val = 512 * (grid0.coords t 1).val + r.val; rw [h1]; omega)
  | ⟨2, _⟩ => exact Fin.ext (by show win0_5.index t 2 * 256 + 1 * x.val = x.val; rw [h2]; omega)

theorem block_ssm (t : Fin grid0.N) (r : Fin 512) (x : Fin 256) :
    (iblk m c 6 t : Vec Ideal S1x512x256 .f32) (ix3 0 r x) = m ((c : Thread nD τ).loc main_arg6) (ix3 (bat t) (token t r) x) := by
  unfold iblk
  rw [View.read_apply]
  show V m c main_arg6 _ = _
  rw [V_main_arg6]
  congr 1
  funext a
  obtain ⟨h0, h1, h2⟩ := index_ssm t
  match a with
  | ⟨0, _⟩ => exact Fin.ext (by show win0_6.index t 0 * 1 + 1 * 0 = _; rw [h0]; simp)
  | ⟨1, _⟩ => exact Fin.ext (by show win0_6.index t 1 * 512 + 1 * r.val = 512 * (grid0.coords t 1).val + r.val; rw [h1]; omega)
  | ⟨2, _⟩ => exact Fin.ext (by show win0_6.index t 2 * 256 + 1 * x.val = x.val; rw [h2]; omega)

theorem block_da (t : Fin grid0.N) (h : Fin 4) (r : Fin 512) (x : Fin 64) :
    (iblk m c 4 t : Vec Ideal S1x4x512x64 .f32) (ix4 0 h r x) = m ((c : Thread nD τ).loc main_arg4) (ix4 (bat t) h (token t r) x) := by
  unfold iblk
  rw [View.read_apply]
  show V m c main_arg4 _ = _
  rw [V_main_arg4]
  congr 1
  funext a
  obtain ⟨h0, h1, h2, h3⟩ := index_da t
  match a with
  | ⟨0, _⟩ => exact Fin.ext (by show win0_4.index t 0 * 1 + 1 * 0 = _; rw [h0]; simp)
  | ⟨1, _⟩ => exact Fin.ext (by show win0_4.index t 1 * 4 + 1 * h.val = h.val; rw [h1]; omega)
  | ⟨2, _⟩ => exact Fin.ext (by show win0_4.index t 2 * 512 + 1 * r.val = 512 * (grid0.coords t 1).val + r.val; rw [h2]; omega)
  | ⟨3, _⟩ => exact Fin.ext (by show win0_4.index t 3 * 64 + 1 * x.val = x.val; rw [h3]; omega)

/-- The arrays that the host prepares. -/
theorem V_v0 : (V m c main_v0 : Vec Ideal S1x1024 .f32) = shapeCast S1x1024 (m ((c : Thread nD τ).loc main_arg2)) shapeCasts_S1024_S1x1024 := by
  unfold_abbrev_sides
  after_results
  rfl
theorem V_v1 : (V m c main_v1 : Vec Ideal S4x256x1024 .bf16) = truncf (F := Ideal) .bf16 (m ((c : Thread nD τ).loc main_arg7) : FVec Ideal S4x256x1024 .f32) bitsLt_bf16_f32 := by
  unfold_abbrev_sides
  after_results
theorem V_v4 : (V m c main_v4 : Vec Ideal S1024x4096 .bf16)
    = truncf (F := Ideal) .bf16 (shapeCast S1024x4096 (transpose S1024x4x1024 [1, 0, 2] (m ((c : Thread nD τ).loc main_arg8) : FVec Ideal S4x1024x1024 .f32) transposes_S4x1024x1024_S1024x4x1024_1_0_2) shapeCasts_S1024x4x1024_S1024x4096) bitsLt_bf16_f32 := by
  unfold_abbrev_sides
  after_results
  rfl
theorem V_v5 : (V m c main_v5 : Vec Ideal S1x4096 .f32) = shapeCast S1x4096 (m ((c : Thread nD τ).loc main_arg9)) shapeCasts_S4x1024_S1x4096 := by
  unfold_abbrev_sides
  after_results
  rfl
theorem V_v6 : (V m c main_v6 : Vec Ideal S1024x1024 .bf16) = truncf (F := Ideal) .bf16 (m ((c : Thread nD τ).loc main_arg10) : FVec Ideal S1024x1024 .f32) bitsLt_bf16_f32 := by
  unfold_abbrev_sides
  after_results
theorem V_v7 : (V m c main_v7 : Vec Ideal S16x1x6144 .f32) = broadcastInDim S16x1x6144 ![0, 2] bcast_S16x6144_S16x1x6144_0_2 (m ((c : Thread nD τ).loc main_arg1)) := by
  unfold_abbrev_sides
  after_results

theorem cast_v0 (y : FVec Ideal S1024 .f32) (x : Fin 1024) : shapeCast S1x1024 y shapeCasts_S1024_S1x1024 (ix2 0 x) = y (ix1 x) := by
  pointwise

theorem cast_v4 (y : FVec Ideal S4x1024x1024 .f32) (k : Fin 1024) (n : Fin 4) (j : Fin 1024) :
    truncf (F := Ideal) .bf16 (shapeCast S1024x4096 (transpose S1024x4x1024 [1, 0, 2] y transposes_S4x1024x1024_S1024x4x1024_1_0_2) shapeCasts_S1024x4x1024_S1024x4096) bitsLt_bf16_f32 (ix2 k (column n j)) = y (ix3 n k j) := by
  have e : ∀ i : Fin 4096, truncf (F := Ideal) .bf16 (shapeCast S1024x4096 (transpose S1024x4x1024 [1, 0, 2] y transposes_S4x1024x1024_S1024x4x1024_1_0_2) shapeCasts_S1024x4x1024_S1024x4096) bitsLt_bf16_f32 (ix2 k i)
      = y (ix3 ⟨i.val / 1024, by omega⟩ k ⟨i.val % 1024, by omega⟩) := fun i => by
    pointwise
  rw [e]
  congr 2
  · exact Fin.ext (by show (1024 * n.val + j.val) / 1024 = n.val; omega)
  · exact Fin.ext (by show (1024 * n.val + j.val) % 1024 = j.val; omega)

theorem cast_v5 (y : FVec Ideal S4x1024 .f32) (n : Fin 4) (j : Fin 1024) : shapeCast S1x4096 y shapeCasts_S4x1024_S1x4096 (ix2 0 (column n j)) = y (ix2 n j) := by
  have e : ∀ i : Fin 4096, shapeCast S1x4096 y shapeCasts_S4x1024_S1x4096 (ix2 0 i) = y (ix2 ⟨i.val / 1024, by omega⟩ ⟨i.val % 1024, by omega⟩) := fun i => by
    pointwise
  rw [e]
  congr 2
  · exact Fin.ext (by show (1024 * n.val + j.val) / 1024 = n.val; omega)
  · exact Fin.ext (by show (1024 * n.val + j.val) % 1024 = j.val; omega)

theorem cast_v7 (y : FVec Ideal S16x6144 .f32) (b : Fin 16) (x : Fin 6144) : broadcastInDim S16x1x6144 ![0, 2] bcast_S16x6144_S16x1x6144_0_2 y (ix3 b 0 x) = y (ix2 b x) := by
  pointwise

theorem block_ada (t : Fin grid0.N) (x : Fin 6144) :
    (iblk m c 1 t : Vec Ideal S1x1x6144 .f32) (ix3 0 0 x) = m ((c : Thread nD τ).loc main_arg1) (ix2 (bat t) x) := by
  refine Eq.trans ?_ ((congrFun (V_v7 m c) (ix3 (bat t) 0 x)).trans (cast_v7 _ (bat t) x))
  unfold iblk
  rw [View.read_apply]
  show V m c main_v7 _ = V m c main_v7 _
  congr 1
  funext a
  obtain ⟨h0, h1, h2⟩ := index_ada t
  match a with
  | ⟨0, _⟩ => exact Fin.ext (by show win0_1.index t 0 * 1 + 1 * 0 = _; rw [h0]; simp)
  | ⟨1, _⟩ => exact Fin.ext (by show win0_1.index t 1 * 1 + 1 * 0 = 0; rw [h1])
  | ⟨2, _⟩ => exact Fin.ext (by show win0_1.index t 2 * 6144 + 1 * x.val = x.val; rw [h2]; omega)

theorem block_nw (t : Fin grid0.N) (x : Fin 1024) :
    (iblk m c 2 t : Vec Ideal S1x1024 .f32) (ix2 0 x) = m ((c : Thread nD τ).loc main_arg2) (ix1 x) := by
  refine Eq.trans ?_ ((congrFun (V_v0 m c) (ix2 0 x)).trans (cast_v0 _ x))
  unfold iblk
  rw [View.read_apply]
  show V m c main_v0 _ = V m c main_v0 _
  congr 1
  funext a
  obtain ⟨⟨h0, h1⟩, -⟩ := index_whole t
  match a with
  | ⟨0, _⟩ => exact Fin.ext (by show win0_2.index t 0 * 1 + 1 * 0 = 0; rw [h0])
  | ⟨1, _⟩ => exact Fin.ext (by show win0_2.index t 1 * 1024 + 1 * x.val = x.val; rw [h1]; omega)

theorem block_wb (t : Fin grid0.N) (n : Fin 4) (k : Fin 256) (j : Fin 1024) :
    (iblk m c 7 t : Vec Ideal S4x256x1024 .bf16) (ix3 n k j) = m ((c : Thread nD τ).loc main_arg7) (ix3 n k j) := by
  refine Eq.trans ?_ (congrFun (V_v1 m c) (ix3 n k j))
  unfold iblk
  rw [View.read_apply]
  show V m c main_v1 _ = V m c main_v1 _
  congr 1
  funext a
  obtain ⟨-, ⟨h0, h1, h2⟩, -⟩ := index_whole t
  match a with
  | ⟨0, _⟩ => exact Fin.ext (by show win0_7.index t 0 * 4 + 1 * n.val = n.val; rw [h0]; omega)
  | ⟨1, _⟩ => exact Fin.ext (by show win0_7.index t 1 * 256 + 1 * k.val = k.val; rw [h1]; omega)
  | ⟨2, _⟩ => exact Fin.ext (by show win0_7.index t 2 * 1024 + 1 * j.val = j.val; rw [h2]; omega)

theorem block_wg (t : Fin grid0.N) (n : Fin 4) (k j : Fin 1024) :
    (iblk m c 8 t : Vec Ideal S1024x4096 .bf16) (ix2 k (column n j)) = m ((c : Thread nD τ).loc main_arg8) (ix3 n k j) := by
  refine Eq.trans ?_ ((congrFun (V_v4 m c) (ix2 k (column n j))).trans (cast_v4 _ k n j))
  unfold iblk
  rw [View.read_apply]
  show V m c main_v4 _ = V m c main_v4 _
  congr 1
  funext a
  obtain ⟨-, -, ⟨h0, h1⟩, -⟩ := index_whole t
  match a with
  | ⟨0, _⟩ => exact Fin.ext (by show win0_8.index t 0 * 1024 + 1 * k.val = k.val; rw [h0]; omega)
  | ⟨1, _⟩ => exact Fin.ext (by show win0_8.index t 1 * 4096 + 1 * (column n j).val = (column n j).val; rw [h1]; omega)

theorem block_bg (t : Fin grid0.N) (n : Fin 4) (j : Fin 1024) :
    (iblk m c 9 t : Vec Ideal S1x4096 .f32) (ix2 0 (column n j)) = m ((c : Thread nD τ).loc main_arg9) (ix2 n j) := by
  refine Eq.trans ?_ ((congrFun (V_v5 m c) (ix2 0 (column n j))).trans (cast_v5 _ n j))
  unfold iblk
  rw [View.read_apply]
  show V m c main_v5 _ = V m c main_v5 _
  congr 1
  funext a
  obtain ⟨-, -, -, ⟨h0, h1⟩, -⟩ := index_whole t
  match a with
  | ⟨0, _⟩ => exact Fin.ext (by show win0_9.index t 0 * 1 + 1 * 0 = 0; rw [h0])
  | ⟨1, _⟩ => exact Fin.ext (by show win0_9.index t 1 * 4096 + 1 * (column n j).val = (column n j).val; rw [h1]; omega)

theorem block_wo (t : Fin grid0.N) (k j : Fin 1024) :
    (iblk m c 10 t : Vec Ideal S1024x1024 .bf16) (ix2 k j) = m ((c : Thread nD τ).loc main_arg10) (ix2 k j) := by
  refine Eq.trans ?_ (congrFun (V_v6 m c) (ix2 k j))
  unfold iblk
  rw [View.read_apply]
  show V m c main_v6 _ = V m c main_v6 _
  congr 1
  funext a
  obtain ⟨-, -, -, -, h0, h1⟩ := index_whole t
  match a with
  | ⟨0, _⟩ => exact Fin.ext (by show win0_10.index t 0 * 1024 + 1 * k.val = k.val; rw [h0]; omega)
  | ⟨1, _⟩ => exact Fin.ext (by show win0_10.index t 1 * 1024 + 1 * j.val = j.val; rw [h1]; omega)

/-- The output of branch `n` at a token. -/
abbrev mixer (b : Fin 16) (t : Fin 4096) : Fin 4 → Fin 256 → EReal := fun n => match n with
  | 0 => fun k => m ((c : Thread nD τ).loc main_arg3) (ix3 b t k)
  | 1 => fun k => m ((c : Thread nD τ).loc main_arg4) (ix4 b (headOf k) t (laneOf k))
  | 2 => fun k => m ((c : Thread nD τ).loc main_arg5) (ix3 b t k)
  | 3 => fun k => m ((c : Thread nD τ).loc main_arg6) (ix3 b t k)

/-- The value at an index of the result. -/
def value (b : Fin 16) (t : Fin 4096) (d : Fin 1024) : EReal :=
  merged (fun k => m ((c : Thread nD τ).loc main_arg0) (ix3 b t k)) (fun k => m ((c : Thread nD τ).loc main_arg2) (ix1 k)) (fun k => m ((c : Thread nD τ).loc main_arg1) (ix2 b k))
    (fun n k j => m ((c : Thread nD τ).loc main_arg8) (ix3 n k j)) (fun n j => m ((c : Thread nD τ).loc main_arg9) (ix2 n j)) (mixer m c b t)
    (fun n k j => m ((c : Thread nD τ).loc main_arg7) (ix3 n k j)) (fun j d => m ((c : Thread nD τ).loc main_arg10) (ix2 j d)) d

/-- The result array. -/
def result : Buf (Elt Ideal) ((c : Thread nD τ).loc main_v8) := fun (j : S16x4096x1024.Idx) => value m c (j 0) (j 1) (j 2)

theorem flushed_at (t : Fin cfg0.N) (r : Fin 512) (d : Fin 1024) :
    ((dats m 0 c).flushed 11 t : Vec Ideal S1x512x1024 .f32) (ix3 0 r d) = value m c (bat t) (token t r) d := by
  rw [Value.flushed11]
  refine (block_at (iblk m c 0 t) (iblk m c 1 t) (iblk m c 2 t) (iblk m c 3 t) (iblk m c 5 t) (iblk m c 6 t) (iblk m c 4 t) (iblk m c 7 t) (iblk m c 8 t) (iblk m c 9 t) (iblk m c 10 t) r d).trans ?_
  have eo : outOf (iblk m c 3 t) (iblk m c 5 t) (iblk m c 6 t) (iblk m c 4 t) r = mixer m c (bat t) (token t r) := by
    funext n k
    match n with
    | 0 => exact block_hy m c t r k
    | 1 => exact block_da m c t (headOf k) r (laneOf k)
    | 2 => exact block_ret m c t r k
    | 3 => exact block_ssm m c t r k
  rw [eo]
  simp only [block_x, block_ada, block_nw, block_wb, block_wg, block_bg, block_wo]
  rfl

theorem flushed_eq (t : Fin cfg0.N) : (dats m 0 c).flushed 11 t = ((cfg0.win 11).blk t).view.read (Elt Ideal) (result m c) := by
  funext j
  obtain ⟨r, hr⟩ : ∃ r : Fin 512, r.val = (j 1).val := ⟨⟨(j 1).val, (j 1).isLt⟩, rfl⟩
  obtain ⟨d, hd⟩ : ∃ d : Fin 1024, d.val = (j 2).val := ⟨⟨(j 2).val, (j 2).isLt⟩, rfl⟩
  have hj : (j : S1x512x1024.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed_at m c t r d).trans ?_
  rw [View.read_apply]
  obtain ⟨h0, h1, h2⟩ := index_o t
  show value m c _ _ _ = value m c _ _ _
  congr 1
  · exact Fin.ext (by show _ = win0_11.index t 0 * 1 + 1 * 0; rw [h0]; simp)
  · exact Fin.ext (by show 512 * (grid0.coords t 1).val + r.val = win0_11.index t 1 * 512 + 1 * r.val; rw [h1]; omega)
  · exact Fin.ext (by show d.val = win0_11.index t 2 * 1024 + 1 * d.val; rw [h2]; omega)

/-- The point whose block holds an index. -/
def pointOf (i : S16x4096x1024.Idx) : Fin grid0.N :=
  ⟨(i 0).val * 8 + (i 1).val / 512, by
    have h0 : (i 0).val < 16 := (i 0).isLt
    have h1 : (i 1).val < 4096 := (i 1).isLt
    have hN : grid0.N = 128 := N_0
    omega⟩

theorem final : (dats m 0 c).arrAt 11 cfg0.N = result m c :=
  (dats m 0 c).arrAt_eq_of_cover 11 (result m c) (fun t _ => flushed_eq m c t) fun i =>
    ⟨pointOf i, flush0_11 _, by
      show i ∈ ((View.whole main_v8).slice (win0_11.rect (pointOf i))).set
      rw [View.set_slice_whole, Rect.mem_set_unit]
      intro a
      have h0 : (i 0 : Nat) < 16 := (i 0).isLt
      have h1 : (i 1 : Nat) < 4096 := (i 1).isLt
      have h2 : (i 2 : Nat) < 1024 := (i 2).isLt
      obtain ⟨e0, e1, e2⟩ := index_o (pointOf i)
      obtain ⟨c0, c1⟩ := coords_at (pointOf i)
      have hp : (pointOf i).val = (i 0 : Nat) * 8 + (i 1 : Nat) / 512 := rfl
      match a with
      | ⟨0, _⟩ => show win0_11.index (pointOf i) 0 * 1 ≤ (i 0 : Nat) ∧ (i 0 : Nat) < win0_11.index (pointOf i) 0 * 1 + 1
                  rw [e0, c0, hp]; omega
      | ⟨1, _⟩ => show win0_11.index (pointOf i) 1 * 512 ≤ (i 1 : Nat) ∧ (i 1 : Nat) < win0_11.index (pointOf i) 1 * 512 + 512
                  rw [e1, c1, hp]; omega
      | ⟨2, _⟩ => show win0_11.index (pointOf i) 2 * 1024 ≤ (i 2 : Nat) ∧ (i 2 : Nat) < win0_11.index (pointOf i) 2 * 1024 + 1024
                  rw [e2]; omega⟩

end Cert.Kernel2Ideal.Merge

end
-- ==== Proof.MergeRef.lean ====
/-
  The reference of the merge at an index: the normalised row, the four gates, the four products, and the result.
-/
module

public import proofs.«01_k».proof.Proof.Layer
public import proofs.«01_k».proof.Proof.Gen.Reference2Ideal.Read
public import Idealize.ShloMosaic.Lib.Tactic
public import Idealize.ShloMosaic.Lib.Pointwise

@[expose] public section

set_option maxRecDepth 16384

noncomputable section
namespace Cert.Reference2Ideal.Merge
open Cert.Layer Cert.Reference2Ideal Cert.Reference2Ideal.Gen Cert.Reference2Ideal.Read Idealize.ShloMosaic Idealize.ShloMosaic.TcCoe Idealize.SL.Sem

variable (x0 : FVec Ideal S16x4096x1024 .f32) (x1 : FVec Ideal S16x6144 .f32) (x2 : FVec Ideal S1024 .f32) (x3 x5 x6 : FVec Ideal S16x4096x256 .f32)
  (x4 : FVec Ideal S16x4x4096x64 .f32) (x7 : FVec Ideal S4x256x1024 .f32) (x8 : FVec Ideal S4x1024x1024 .f32) (x9 : FVec Ideal S4x1024 .f32) (x10 : FVec Ideal S1024x1024 .f32)
variable (b : Fin 16) (t : Fin 4096) (d : Fin 1024)

/-- The normalised, scaled and shifted row. -/
theorem hidden_at : val_main_v25 (F := Ideal) x0 x1 x2 (ix3 b t d)
    = hidden (fun k => x0 (ix3 b t k)) (fun k => x2 (ix1 k)) (fun k => x1 (ix2 b k)) d := by
  have hi : ∀ k : Fin 1024, idx_main_v8 (idx_main_v9 (idx_main_v15 (ix3 b t d))) k = ix3 b t k := fun k => by
    funext a; match a with | ⟨0, _⟩ => rfl | ⟨1, _⟩ => rfl | ⟨2, _⟩ => rfl
  have hs : ∀ k : Fin 1024, val_main_v7 (F := Ideal) x0 (idx_main_v8 (idx_main_v9 (idx_main_v15 (ix3 b t d))) k) = x0 (ix3 b t k) * x0 (ix3 b t k) := fun k => by
    rw [hi k]; rfl
  rw [val_main_v25_apply, val_main_v23_apply, val_main_v19_apply, val_main_v16_apply, val_main_v15_apply, val_main_v14_apply, val_main_v13_apply, val_main_v11_apply, val_main_v9_apply, val_main_v8_apply,
    Finset.sum_congr rfl fun k _ => hs k]
  pointwise [val_main_v24, val_main_v22, val_main_v21, val_main_v20, val_main_v18, val_main_v17, val_main_v12, val_main_v10, val_main_v2, val_main_v1, val_main_v0, val_main_cst, val_main_cst_0, val_main_cst_1, val_main_cst_2]
  rfl

/-- The attention's output with its heads side by side. -/
theorem heads_at (k : Fin 256) : val_main_v27 (F := Ideal) x4 (ix3 b t k) = x4 (ix4 b (headOf k) t (laneOf k)) := by
  pointwise [val_main_v27, val_main_v26]

/-- The gate of the first branch. -/
theorem gate0_at : val_main_v41 (F := Ideal) x0 x1 x2 x8 x9 (ix3 b t d)
    = Ideal.logistic (∑ k, val_main_v25 (F := Ideal) x0 x1 x2 (ix3 b t k) * x8 (ix3 0 k d) + x9 (ix2 0 d)) := by
  have hl : ∀ k : Fin 1024, lidx_main_v30 (ix3 b t d) k = ix3 b t k := fun k => by
    funext a; match a with | ⟨0, _⟩ => rfl | ⟨1, _⟩ => rfl | ⟨2, _⟩ => rfl
  rw [val_main_v41_apply, val_main_v39_apply, val_main_v37_apply, val_main_v36_apply, val_main_v35_apply, val_main_v30_apply]
  simp only [hl]
  generalize val_main_v25 (F := Ideal) x0 x1 x2 = y
  pointwise [val_main_v40, val_main_cst_4, val_main_v38, val_main_cst_3, val_main_v34, val_main_v33, val_main_v32, val_main_v31, val_main_v29, val_main_v28]
  rfl

/-- The gate of the second branch. -/
theorem gate1_at : val_main_v61 (F := Ideal) x0 x1 x2 x8 x9 (ix3 b t d)
    = Ideal.logistic (∑ k, val_main_v25 (F := Ideal) x0 x1 x2 (ix3 b t k) * x8 (ix3 1 k d) + x9 (ix2 1 d)) := by
  have hl : ∀ k : Fin 1024, lidx_main_v50 (ix3 b t d) k = ix3 b t k := fun k => by
    funext a; match a with | ⟨0, _⟩ => rfl | ⟨1, _⟩ => rfl | ⟨2, _⟩ => rfl
  rw [val_main_v61_apply, val_main_v59_apply, val_main_v57_apply, val_main_v56_apply, val_main_v55_apply, val_main_v50_apply]
  simp only [hl]
  generalize val_main_v25 (F := Ideal) x0 x1 x2 = y
  pointwise [val_main_v60, val_main_cst_7, val_main_v58, val_main_cst_6, val_main_v54, val_main_v53, val_main_v52, val_main_v51, val_main_v49, val_main_v48]
  rfl

/-- The gate of the third branch. -/
theorem gate2_at : val_main_v80 (F := Ideal) x0 x1 x2 x8 x9 (ix3 b t d)
    = Ideal.logistic (∑ k, val_main_v25 (F := Ideal) x0 x1 x2 (ix3 b t k) * x8 (ix3 2 k d) + x9 (ix2 2 d)) := by
  have hl : ∀ k : Fin 1024, lidx_main_v69 (ix3 b t d) k = ix3 b t k := fun k => by
    funext a; match a with | ⟨0, _⟩ => rfl | ⟨1, _⟩ => rfl | ⟨2, _⟩ => rfl
  rw [val_main_v80_apply, val_main_v78_apply, val_main_v76_apply, val_main_v75_apply, val_main_v74_apply, val_main_v69_apply]
  simp only [hl]
  generalize val_main_v25 (F := Ideal) x0 x1 x2 = y
  pointwise [val_main_v79, val_main_cst_9, val_main_v77, val_main_cst_8, val_main_v73, val_main_v72, val_main_v71, val_main_v70, val_main_v68, val_main_v67]
  rfl

/-- The gate of the fourth branch. -/
theorem gate3_at : val_main_v99 (F := Ideal) x0 x1 x2 x8 x9 (ix3 b t d)
    = Ideal.logistic (∑ k, val_main_v25 (F := Ideal) x0 x1 x2 (ix3 b t k) * x8 (ix3 3 k d) + x9 (ix2 3 d)) := by
  have hl : ∀ k : Fin 1024, lidx_main_v88 (ix3 b t d) k = ix3 b t k := fun k => by
    funext a; match a with | ⟨0, _⟩ => rfl | ⟨1, _⟩ => rfl | ⟨2, _⟩ => rfl
  rw [val_main_v99_apply, val_main_v97_apply, val_main_v95_apply, val_main_v94_apply, val_main_v93_apply, val_main_v88_apply]
  simp only [hl]
  generalize val_main_v25 (F := Ideal) x0 x1 x2 = y
  pointwise [val_main_v98, val_main_cst_11, val_main_v96, val_main_cst_10, val_main_v92, val_main_v91, val_main_v90, val_main_v89, val_main_v87, val_main_v86]
  rfl

/-- The product of the first branch. -/
theorem dot0_at : val_main_v44 (F := Ideal) x3 x7 (ix3 b t d) = ∑ k : Fin 256, x3 (ix3 b t k) * x7 (ix3 0 k d) := by
  have hl : ∀ k : Fin 256, lidx_main_v44 (ix3 b t d) k = ix3 b t k := fun k => by
    funext a; match a with | ⟨0, _⟩ => rfl | ⟨1, _⟩ => rfl | ⟨2, _⟩ => rfl
  rw [val_main_v44_apply]
  refine Finset.sum_congr rfl fun k _ => ?_
  rw [hl]
  pointwise [val_main_v43, val_main_v42]

/-- The product of the second branch: the attention's output. -/
theorem dot1_at : val_main_v64 (F := Ideal) x4 x7 (ix3 b t d) = ∑ k : Fin 256, x4 (ix4 b (headOf k) t (laneOf k)) * x7 (ix3 1 k d) := by
  have hl : ∀ k : Fin 256, lidx_main_v64 (ix3 b t d) k = ix3 b t k := fun k => by
    funext a; match a with | ⟨0, _⟩ => rfl | ⟨1, _⟩ => rfl | ⟨2, _⟩ => rfl
  rw [val_main_v64_apply]
  refine Finset.sum_congr rfl fun k _ => ?_
  rw [hl, heads_at]
  pointwise [val_main_v63, val_main_v62]

/-- The product of the third branch. -/
theorem dot2_at : val_main_v83 (F := Ideal) x5 x7 (ix3 b t d) = ∑ k : Fin 256, x5 (ix3 b t k) * x7 (ix3 2 k d) := by
  have hl : ∀ k : Fin 256, lidx_main_v83 (ix3 b t d) k = ix3 b t k := fun k => by
    funext a; match a with | ⟨0, _⟩ => rfl | ⟨1, _⟩ => rfl | ⟨2, _⟩ => rfl
  rw [val_main_v83_apply]
  refine Finset.sum_congr rfl fun k _ => ?_
  rw [hl]
  pointwise [val_main_v82, val_main_v81]

/-- The product of the fourth branch. -/
theorem dot3_at : val_main_v102 (F := Ideal) x6 x7 (ix3 b t d) = ∑ k : Fin 256, x6 (ix3 b t k) * x7 (ix3 3 k d) := by
  have hl : ∀ k : Fin 256, lidx_main_v102 (ix3 b t d) k = ix3 b t k := fun k => by
    funext a; match a with | ⟨0, _⟩ => rfl | ⟨1, _⟩ => rfl | ⟨2, _⟩ => rfl
  rw [val_main_v102_apply]
  refine Finset.sum_congr rfl fun k _ => ?_
  rw [hl]
  pointwise [val_main_v101, val_main_v100]

/-- The output of branch `n` at a token. -/
abbrev outOf : Fin 4 → Fin 256 → EReal := fun n => match n with
  | 0 => fun k => x3 (ix3 b t k)
  | 1 => fun k => x4 (ix4 b (headOf k) t (laneOf k))
  | 2 => fun k => x5 (ix3 b t k)
  | 3 => fun k => x6 (ix3 b t k)

/-- The four gated products added, from zero. -/
theorem mixed_at : val_main_v104 (F := Ideal) x0 x1 x2 x3 x4 x5 x6 x7 x8 x9 (ix3 b t d)
    = mixed (hidden (fun k => x0 (ix3 b t k)) (fun k => x2 (ix1 k)) (fun k => x1 (ix2 b k))) (fun n k => x8 (ix3 n k d)) (fun n => x9 (ix2 n d))
        (outOf x3 x5 x6 x4 b t) (fun n k => x7 (ix3 n k d)) := by
  have hz : val_main_v46 (F := Ideal) (ix3 b t d) = (0 : EReal) := by
    pointwise [val_main_v46, val_main_cst_5]
  rw [val_main_v104_apply, val_main_v103_apply, val_main_v85_apply, val_main_v84_apply, val_main_v66_apply, val_main_v65_apply, val_main_v47_apply, val_main_v45_apply,
    gate0_at, gate1_at, gate2_at, gate3_at, dot0_at, dot1_at, dot2_at, dot3_at, hz]
  simp only [hidden_at]
  show (0 + _ + _ + _ + _ : EReal) = _
  rw [zero_add]
  rfl

/-- The result of the reference at an index. -/
theorem out_at : val_main_v108 (F := Ideal) x0 x1 x2 x3 x4 x5 x6 x7 x8 x9 x10 (ix3 b t d)
    = merged (fun k => x0 (ix3 b t k)) (fun k => x2 (ix1 k)) (fun k => x1 (ix2 b k)) (fun n k j => x8 (ix3 n k j)) (fun n j => x9 (ix2 n j))
        (outOf x3 x5 x6 x4 b t) (fun n k j => x7 (ix3 n k j)) (fun j d => x10 (ix2 j d)) d := by
  have hl : ∀ k : Fin 1024, lidx_main_v105 (ix3 b t d) k = ix3 b t k := fun k => by
    funext a; match a with | ⟨0, _⟩ => rfl | ⟨1, _⟩ => rfl | ⟨2, _⟩ => rfl
  have hr : ∀ k : Fin 1024, ridx_main_v105 (ix3 b t d) k = ix2 k d := fun k => by
    funext a; match a with | ⟨0, _⟩ => rfl | ⟨1, _⟩ => rfl
  have hg : val_main_v106 (F := Ideal) x1 (ix3 b t d) = x1 (ix2 b ⟨2048 + d.val, by omega⟩) := by
    pointwise [val_main_v106, val_main_v3, val_main_v0]
  rw [val_main_v108_apply, val_main_v107_apply, val_main_v105_apply, hg]
  simp only [hl, hr, mixed_at]
  rfl

end Cert.Reference2Ideal.Merge

end
-- ==== Proof.MergeEquation.lean ====
/-
  The merge and its reference are one function of the arguments.
-/
module

public import proofs.«01_k».proof.Proof.MergeArray
public import proofs.«01_k».proof.Proof.MergeRef

@[expose] public section

set_option maxRecDepth 16384

noncomputable section
namespace Cert.Merge
open Idealize.ShloMosaic Idealize.ShloMosaic.TcCoe Idealize.SL.Sem Cert.Kernel2Ideal Cert.Kernel2Ideal.Merge

theorem result_eq (m : (ℓ : Loc nD τ sig) → Buf (Elt Ideal) ℓ) (c : Dev nD) :
    result m c = Cert.Reference2Ideal.Read.val_main_v108 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  funext (j : S16x4096x1024.Idx)
  rw [eq_ix3 j]
  refine Eq.trans ?_ (Cert.Reference2Ideal.Merge.out_at _ _ _ _ _ _ _ _ _ _ _ (j 0) (j 1) (j 2)).symm
  show value m c (j 0) (j 1) (j 2) = _
  unfold value
  congr 1

end Cert.Merge

end
-- ==== Proof.PremixLayer.lean ====
/-
  The input projection of the layer at one token, and the norm of the attention's queries and keys over groups of 32
  columns: the mean of the squares of a group is the product of all 256 squares with the matrix of the groups over 32.
-/
module

public import proofs.«01_k».proof.Proof.Layer
public import proofs.«01_k».proof.Proof.Online

@[expose] public section

set_option maxRecDepth 16384

noncomputable section
namespace Cert.Layer
open Idealize.ShloMosaic

/-- A column of the projection. -/
def projected (h w : Fin 1024 → EReal) : EReal := ∑ k, h k * w k

/-- The columns of the group of 32 that holds column `c`. -/
abbrev mate (c : Fin 256) (e : Fin 32) : Fin 256 := ⟨32 * (c.val / 32) + e.val, by omega⟩

/-- A column's lane in its group. -/
abbrev inGroup (c : Fin 256) : Fin 32 := ⟨c.val % 32, by omega⟩

/-- The mean of the squares of a group. -/
def groupMean (p : Fin 256 → EReal) (c : Fin 256) : EReal :=
  Ideal.div (∑ e, p (mate c e) * p (mate c e)) (Ideal.ofBits .f32 0x42000000#32)

/-- A column over the root of its group's mean square. -/
def normed (p : Fin 256 → EReal) (c : Fin 256) : EReal :=
  p c * Ideal.rsqrt (groupMean p c + Ideal.ofBits .f32 0x358637BD#32)

/-- The matrix of the groups over 32. -/
def segment (j c : Fin 256) : EReal :=
  Ideal.div (if j.val / 32 = c.val / 32 then 1 else 0) (Ideal.ofBits .f32 0x42000000#32)

theorem ofBits_32 : Ideal.ofBits .f32 0x42000000#32 = ((32 : ℝ) : EReal) := by
  simp [Ideal.ofBits, Ideal.ieee]
  rw [← EReal.coe_mul]
  norm_num

theorem ofBits_1024 : Ideal.ofBits .f32 0x44800000#32 = ((1024 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  refine ⟨_, ?_, by simp [Ideal.ofBits, Ideal.ieee]; rw [← EReal.coe_mul]⟩
  positivity

theorem segment_coe (j c : Fin 256) : segment j c = (((if j.val / 32 = c.val / 32 then 1 / 32 else 0 : ℝ)) : EReal) := by
  unfold segment
  rw [ofBits_32, Ideal.div_coe (by norm_num)]
  split <;> simp

/-- The two products of the squares with the matrix of the groups: the second is of what a rounding leaves, zero. -/
theorem segment_sum (p : Fin 256 → EReal) (c : Fin 256) (hp : ∀ j, ∃ r : ℝ, p j = r) :
    ∑ j, p j * p j * segment j c + ∑ j, (p j * p j - p j * p j) * segment j c = groupMean p c := by
  choose f hf using hp
  have e2 : ∑ j, (p j * p j - p j * p j) * segment j c = 0 := Finset.sum_eq_zero fun j _ => by
    rw [hf j, ← EReal.coe_mul, ← EReal.coe_sub, sub_self, EReal.coe_zero, zero_mul]
  have e1 : ∑ j, p j * p j * segment j c = ((∑ j : Fin 256, f j * f j * (if j.val / 32 = c.val / 32 then 1 / 32 else 0) : ℝ) : EReal) := by
    rw [← Cert.Attn.sum_coe]
    exact Finset.sum_congr rfl fun j _ => by rw [hf j, segment_coe, ← EReal.coe_mul, ← EReal.coe_mul]
  have e3 : ∑ j : Fin 256, f j * f j * (if j.val / 32 = c.val / 32 then 1 / 32 else 0 : ℝ) = (∑ e : Fin 32, f (mate c e) * f (mate c e)) * (1 / 32) := by
    have hs : ∑ j : Fin 256, f j * f j * (if j.val / 32 = c.val / 32 then 1 / 32 else 0 : ℝ)
        = ∑ a : Fin 8, ∑ e : Fin 32, f ⟨32 * a.val + e.val, by omega⟩ * f ⟨32 * a.val + e.val, by omega⟩ * (if a = ⟨c.val / 32, by omega⟩ then 1 / 32 else 0 : ℝ) := by
      rw [← Fintype.sum_prod_type', ← Equiv.sum_comp (finProdFinEquiv (m := 8) (n := 32))]
      refine Finset.sum_congr rfl fun q _ => ?_
      obtain ⟨a, e⟩ := q
      have hk : (finProdFinEquiv (m := 8) (n := 32) (a, e)).val = e.val + 32 * a.val := rfl
      have h1 : (finProdFinEquiv (m := 8) (n := 32) (a, e) : Fin 256) = ⟨32 * a.val + e.val, by omega⟩ := Fin.ext (by rw [hk]; show e.val + 32 * a.val = 32 * a.val + e.val; omega)
      rw [h1]
      have h2 : ((32 * a.val + e.val) / 32 = c.val / 32) ↔ (a = (⟨c.val / 32, by omega⟩ : Fin 8)) := by
        rw [Fin.ext_iff]
        show _ ↔ a.val = c.val / 32
        omega
      simp only [h2]
    rw [hs]
    rw [Finset.sum_eq_single (⟨c.val / 32, by omega⟩ : Fin 8)]
    · simp only [if_true, ← Finset.sum_mul]
    · intro a _ ha
      simp [ha]
    · intro h
      exact absurd (Finset.mem_univ _) h
  rw [e2, add_zero, e1, e3]
  unfold groupMean
  rw [ofBits_32, Ideal.div_coe (by norm_num), EReal.coe_mul, ← Cert.Attn.sum_coe]
  congr 1
  exact Finset.sum_congr rfl fun e _ => by rw [hf, EReal.coe_mul]

/-- A normalised row of real numbers is of real numbers. -/
theorem hidden_real (x w : Fin 1024 → EReal) (ada : Fin 6144 → EReal) (hx : ∀ k, ∃ r : ℝ, x k = r) (hw : ∀ k, ∃ r : ℝ, w k = r) (ha : ∀ k, ∃ r : ℝ, ada k = r)
    (d : Fin 1024) : ∃ r : ℝ, hidden x w ada d = r := by
  choose f hf using hx
  choose g hg using hw
  choose a hA using ha
  obtain ⟨e, he, hE⟩ := ofBits_eps
  have hs : ∑ k, x k * x k = ((∑ k, f k * f k : ℝ) : EReal) := by
    rw [← Cert.Attn.sum_coe]
    exact Finset.sum_congr rfl fun k _ => by rw [hf k, ← EReal.coe_mul]
  have hpos : 0 < (∑ k, f k * f k) * (1 / 1024) + e := by
    have : 0 ≤ ∑ k, f k * f k := Finset.sum_nonneg fun k _ => mul_self_nonneg _
    positivity
  unfold hidden modulated
  rw [hs, ofBits_1024, Ideal.div_coe (by norm_num), hE, ← EReal.coe_mul, ← EReal.coe_add, Ideal.rsqrt_coe, if_neg (not_lt.mpr hpos.le), if_neg hpos.ne',
    hf, hg]
  show ∃ r : ℝ, _ * (1 + ada ⟨1024 + d.val, _⟩) + ada ⟨d.val, _⟩ = (r : EReal)
  rw [hA, hA, ← EReal.coe_one, ← EReal.coe_add, ← EReal.coe_mul, ← EReal.coe_mul, ← EReal.coe_mul, ← EReal.coe_add]
  exact ⟨_, rfl⟩

theorem projected_real (h w : Fin 1024 → EReal) (hh : ∀ k, ∃ r : ℝ, h k = r) (hw : ∀ k, ∃ r : ℝ, w k = r) : ∃ r : ℝ, projected h w = r := by
  choose f hf using hh
  choose g hg using hw
  refine ⟨∑ k, f k * g k, ?_⟩
  unfold projected
  rw [← Cert.Attn.sum_coe]
  exact Finset.sum_congr rfl fun k _ => by rw [hf k, hg k, ← EReal.coe_mul]

end Cert.Layer

end
-- ==== Proof.PremixPayloads.lean ====
/-
  What each step of a block of the input projection computes at an index: a column of the projection, and a normed column
  of the queries and of the keys.
-/
module

public import proofs.«01_k».proof.Proof.PremixLayer
public import proofs.«01_k».proof.Proof.Gen.Kernel3Ideal.Value
public import Idealize.ShloMosaic.Lib.Pipeline.Value
public import Idealize.ShloMosaic.Lib.Tactic
public import Idealize.ShloMosaic.Lib.Pointwise

@[expose] public section

set_option maxRecDepth 16384

noncomputable section
namespace Cert.Kernel3Ideal.Premix
open Cert.Layer Cert.Kernel3Ideal Cert.Kernel3Ideal.Gen Idealize.ShloMosaic Idealize.ShloMosaic.TcCoe Idealize.SL.Sem
open Idealize.ShloMosaic.Pipeline (Dat)

section
variable (x : Vec Ideal S1x512x1024 .f32) (ada : Vec Ideal S1x1x6144 .f32) (nw : Vec Ideal S1x1024 .f32) (w : Vec Ideal S1024x3200 .bf16)
  (p : FVec Ideal S512x3200 .f32) (seg : Vec Ideal S256x256 .bf16) (hw : Vec Ideal S1x256 .f32) (r : Fin 512)

/-- A column of the projection. -/
theorem proj_at (j : Fin 3200) : k0_pay2 x ada nw w (ix2 r j)
    = projected (hidden (fun k => x (ix3 0 r k)) (fun k => nw (ix2 0 k)) (fun k => ada (ix3 0 0 k))) (fun k => w (ix2 k j)) := by
  pointwise [k0_pay2]
  rfl

/-- A normed column of the queries. -/
theorem query_at (c : Fin 256) : k0_pay9 p seg hw (ix2 r c)
    = p (ix2 r ⟨768 + c.val, by omega⟩)
      * Ideal.rsqrt (∑ j : Fin 256, p (ix2 r ⟨768 + j.val, by omega⟩) * p (ix2 r ⟨768 + j.val, by omega⟩) * seg (ix2 j c)
          + ∑ j : Fin 256, (p (ix2 r ⟨768 + j.val, by omega⟩) * p (ix2 r ⟨768 + j.val, by omega⟩) - p (ix2 r ⟨768 + j.val, by omega⟩) * p (ix2 r ⟨768 + j.val, by omega⟩)) * seg (ix2 j c)
          + Ideal.ofBits .f32 0x358637BD#32) * hw (ix2 0 c) := by
  pointwise [k0_pay9, k0_pay8]

/-- The two products of the squares of the keys with the matrix of the groups. -/
theorem key_sum_at (c : Fin 256) : k0_pay14 p seg (ix2 r c)
    = ∑ j : Fin 256, p (ix2 r ⟨1024 + j.val, by omega⟩) * p (ix2 r ⟨1024 + j.val, by omega⟩) * seg (ix2 j c) := by
  pointwise [k0_pay14, k0_pay13, k0_pay12, k0_pay10, k0_pay8]

theorem key_rest_at (c : Fin 256) : k0_pay15 p seg (ix2 r c)
    = ∑ j : Fin 256, (p (ix2 r ⟨1024 + j.val, by omega⟩) * p (ix2 r ⟨1024 + j.val, by omega⟩) - p (ix2 r ⟨1024 + j.val, by omega⟩) * p (ix2 r ⟨1024 + j.val, by omega⟩)) * seg (ix2 j c) := by
  pointwise [k0_pay15, k0_pay13, k0_pay12, k0_pay10, k0_pay8]

end
end Cert.Kernel3Ideal.Premix

end
-- ==== Proof.PremixBlock.lean ====
/-
  What the seven result arrays of the input projection hold after the run: every element its token's column of the
  projection, normed for the queries and the keys, from the block whose tokens hold it.
-/
module

public import proofs.«01_k».proof.Proof.PremixPayloads
public import proofs.«01_k».proof.Proof.Gen.Kernel3Ideal.Value
public import Idealize.ShloMosaic.Lib.KernelVsHost
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section
namespace Cert.Kernel3Ideal.Premix
open Cert.Layer Cert.Kernel3Ideal Cert.Kernel3Ideal.Gen Idealize.ShloMosaic Idealize.ShloMosaic.TcCoe Idealize.SL.Sem
open Idealize.ShloMosaic.Pipeline (Dat)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

variable (m : (ℓ : Loc nD τ sig) → Buf (Elt Ideal) ℓ) (c : Dev nD)

theorem coords_at : ∀ t : Fin grid0.N, (grid0.coords t 0).val = t.val / 8 ∧ (grid0.coords t 1).val = t.val % 8 := by
  decide +kernel

theorem index_x : ∀ t : Fin grid0.N, win0_0.index t 0 = (grid0.coords t 0).val ∧ win0_0.index t 1 = (grid0.coords t 1).val ∧ win0_0.index t 2 = 0 := by
  decide +kernel

theorem index_ada : ∀ t : Fin grid0.N, win0_1.index t 0 = (grid0.coords t 0).val ∧ win0_1.index t 1 = 0 ∧ win0_1.index t 2 = 0 := by
  decide +kernel

theorem index_whole : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0) := by
  decide +kernel

theorem index_7 : ∀ t : Fin grid0.N, win0_7.index t 0 = (grid0.coords t 0).val ∧ win0_7.index t 1 = (grid0.coords t 1).val ∧ win0_7.index t 2 = 0 := by
  decide +kernel

theorem index_11 : ∀ t : Fin grid0.N, win0_11.index t 0 = (grid0.coords t 0).val ∧ win0_11.index t 1 = (grid0.coords t 1).val ∧ win0_11.index t 2 = 0 := by
  decide +kernel

theorem index_12 : ∀ t : Fin grid0.N, win0_12.index t 0 = (grid0.coords t 0).val ∧ win0_12.index t 1 = (grid0.coords t 1).val ∧ win0_12.index t 2 = 0 := by
  decide +kernel

theorem index_13 : ∀ t : Fin grid0.N, win0_13.index t 0 = (grid0.coords t 0).val ∧ win0_13.index t 1 = (grid0.coords t 1).val ∧ win0_13.index t 2 = 0 := by
  decide +kernel

theorem index_8 : ∀ t : Fin grid0.N, win0_8.index t 0 = (grid0.coords t 0).val ∧ win0_8.index t 1 = 0 ∧ win0_8.index t 2 = (grid0.coords t 1).val ∧ win0_8.index t 3 = 0 := by
  decide +kernel

theorem index_9 : ∀ t : Fin grid0.N, win0_9.index t 0 = (grid0.coords t 0).val ∧ win0_9.index t 1 = 0 ∧ win0_9.index t 2 = (grid0.coords t 1).val ∧ win0_9.index t 3 = 0 := by
  decide +kernel

theorem index_10 : ∀ t : Fin grid0.N, win0_10.index t 0 = (grid0.coords t 0).val ∧ win0_10.index t 1 = 0 ∧ win0_10.index t 2 = (grid0.coords t 1).val ∧ win0_10.index t 3 = 0 := by
  decide +kernel

/-- A block's place: its batch and a row's token. -/
abbrev bat (t : Fin grid0.N) : Fin 16 := ⟨(grid0.coords t 0).val, (grid0.coords t 0).isLt⟩
abbrev token (t : Fin grid0.N) (r : Fin 512) : Fin 4096 :=
  ⟨512 * (grid0.coords t 1).val + r.val, by have : (grid0.coords t 1).val < 8 := (grid0.coords t 1).isLt; omega⟩

theorem block_x (t : Fin grid0.N) (r : Fin 512) (x : Fin 1024) :
    (iblk m c 0 t : Vec Ideal S1x512x1024 .f32) (ix3 0 r x) = m ((c : Thread nD τ).loc main_arg0) (ix3 (bat t) (token t r) x) := by
  unfold iblk
  rw [View.read_apply]
  show V m c main_arg0 _ = _
  rw [V_main_arg0]
  congr 1
  funext a
  obtain ⟨h0, h1, h2⟩ := index_x t
  match a with
  | ⟨0, _⟩ => exact Fin.ext (by show win0_0.index t 0 * 1 + 1 * 0 = _; rw [h0]; simp)
  | ⟨1, _⟩ => exact Fin.ext (by show win0_0.index t 1 * 512 + 1 * r.val = 512 * (grid0.coords t 1).val + r.val; rw [h1]; omega)
  | ⟨2, _⟩ => exact Fin.ext (by show win0_0.index t 2 * 1024 + 1 * x.val = x.val; rw [h2]; omega)

/-- The arrays that the host prepares. -/
theorem V_v10 : (V m c main_v10 : Vec Ideal S1x1024 .f32) = shapeCast S1x1024 (m ((c : Thread nD τ).loc main_arg2)) shapeCasts_S1024_S1x1024 := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl
theorem V_v24 : (V m c main_v24 : Vec Ideal S16x1x6144 .f32) = broadcastInDim S16x1x6144 ![0, 2] bcast_S16x6144_S16x1x6144_0_2 (m ((c : Thread nD τ).loc main_arg1)) := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl
theorem V_v12 : (V m c main_v12 : Vec Ideal S1024x3200 .bf16)
    = truncf (F := Ideal) .bf16 (pad S1024x3200 ![0, 0] ![0, 120] ![0, 0] (m ((c : Thread nD τ).loc main_arg3) : FVec Ideal S1024x3080 .f32)
        (sitofp (F := Ideal) .f32 (constantI S_ 32 0#32)) pads_S1024x3080_S1024x3200_000_01200 h_S_) bitsLt_bf16_f32 := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl
theorem V_v18 : (V m c main_v18 : Vec Ideal S1x256 .f32)
    = shapeCast S1x256 (mulf (F := Ideal) (φ := .f32) (shapeCast S256 (broadcastInDim S8x32 ![0, 1] bcast_S1x32_S8x32_0_1 (shapeCast S1x32 (m ((c : Thread nD τ).loc main_arg4) : FVec Ideal S32 .f32) shapeCasts_S32_S1x32)) shapeCasts_S8x32_S256)
        (broadcastInDim S256 ![] bcast_S_S256 (constant (F := Ideal) S_ .f32 0x3E3504F3#32))) shapeCasts_S256_S1x256 := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl
theorem V_v22 : (V m c main_v22 : Vec Ideal S1x256 .f32)
    = shapeCast S1x256 (shapeCast S256 (broadcastInDim S8x32 ![0, 1] bcast_S1x32_S8x32_0_1 (shapeCast S1x32 (m ((c : Thread nD τ).loc main_arg5) : FVec Ideal S32 .f32) shapeCasts_S32_S1x32)) shapeCasts_S8x32_S256) shapeCasts_S256_S1x256 := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl

/-- The identity over the groups, and the matrix of the groups over 32. -/
abbrev eye : FVec Ideal S8x8 .f32 :=
  uitofp (F := Ideal) .f32 (cmpi .eq (addi (iotaInDim S8x8 32 0) (broadcastInDim S8x8 ![] bcast_S_S8x8 (constantI S_ 32 0#32))) (iotaInDim S8x8 32 1))
abbrev groups : FVec Ideal S8x32x8x32 .f32 :=
  mulf (F := Ideal) (φ := .f32) (broadcastInDim S8x32x8x32 ![0, 1, 2, 3] bcast_S8x1x8x1_S8x32x8x32_0_1_2_3 (broadcastInDim S8x1x8x1 ![0, 2] bcast_S8x8_S8x1x8x1_0_2 eye))
    (broadcastInDim S8x32x8x32 ![0, 1, 2, 3] bcast_S1x32x1x32_S8x32x8x32_0_1_2_3 (broadcastInDim S1x32x1x32 ![1, 3] bcast_S32x32_S1x32x1x32_1_3
      (broadcastInDim S32x32 ![] bcast_S_S32x32 (constant (F := Ideal) S_ .f32 0x3F800000#32))))
theorem V_v23 : (V m c main_v23 : Vec Ideal S256x256 .bf16)
    = truncf (F := Ideal) .bf16 (Host.divf (F := Ideal) (φ := .f32) (shapeCast S256x256 groups shapeCasts_S8x32x8x32_S256x256)
        (broadcastInDim S256x256 ![] bcast_S_S256x256 (constant (F := Ideal) S_ .f32 0x42000000#32))) bitsLt_bf16_f32 := by
  unfold_abbrev_sides
  simp only [hostOps0, hostOps0_1, hostOps0_2, hostOps0_3, hostOps0_4, List.flatten_cons, List.flatten_nil, List.append_nil, List.cons_append, List.nil_append, StableHlo.TRef.binary, StableHlo.TRef.unary, StableHlo.TRef.reshape, StableHlo.TRef.toBuf, StableHlo.TRef.ofBuf, cast_eq]
  after_results_simp <;> rfl

theorem cast_v10 (y : FVec Ideal S1024 .f32) (x : Fin 1024) : shapeCast S1x1024 y shapeCasts_S1024_S1x1024 (ix2 0 x) = y (ix1 x) := by
  pointwise

theorem cast_v24 (y : FVec Ideal S16x6144 .f32) (b : Fin 16) (x : Fin 6144) : broadcastInDim S16x1x6144 ![0, 2] bcast_S16x6144_S16x1x6144_0_2 y (ix3 b 0 x) = y (ix2 b x) := by
  pointwise

theorem cast_v22 (y : FVec Ideal S32 .f32) (x : Fin 256) :
    shapeCast S1x256 (shapeCast S256 (broadcastInDim S8x32 ![0, 1] bcast_S1x32_S8x32_0_1 (shapeCast S1x32 y shapeCasts_S32_S1x32)) shapeCasts_S8x32_S256) shapeCasts_S256_S1x256 (ix2 0 x)
      = y (ix1 (inGroup x)) := by
  pointwise

theorem cast_v18 (y : FVec Ideal S32 .f32) (x : Fin 256) :
    shapeCast S1x256 (mulf (F := Ideal) (φ := .f32) (shapeCast S256 (broadcastInDim S8x32 ![0, 1] bcast_S1x32_S8x32_0_1 (shapeCast S1x32 y shapeCasts_S32_S1x32)) shapeCasts_S8x32_S256)
        (broadcastInDim S256 ![] bcast_S_S256 (constant (F := Ideal) S_ .f32 0x3E3504F3#32))) shapeCasts_S256_S1x256 (ix2 0 x)
      = y (ix1 (inGroup x)) * Ideal.ofBits .f32 0x3E3504F3#32 := by
  pointwise

theorem eye_at (a b : Fin 8) : eye (ix2 a b) = if a = b then (1 : EReal) else 0 := by
  have h : ∀ a b : Fin 8, cmpi .eq (addi (iotaInDim S8x8 32 0) (broadcastInDim S8x8 ![] bcast_S_S8x8 (constantI S_ 32 0#32))) (iotaInDim S8x8 32 1) (ix2 a b)
      = if a = b then 1#1 else 0#1 := by decide +kernel
  show ((BitVec.toNat (cmpi .eq (addi (iotaInDim S8x8 32 0) (broadcastInDim S8x8 ![] bcast_S_S8x8 (constantI S_ 32 0#32))) (iotaInDim S8x8 32 1) (ix2 a b)) : ℝ) : EReal) = _
  rw [h]
  split <;> simp

theorem cast_v23 (j x : Fin 256) :
    truncf (F := Ideal) .bf16 (Host.divf (F := Ideal) (φ := .f32) (shapeCast S256x256 groups shapeCasts_S8x32x8x32_S256x256)
        (broadcastInDim S256x256 ![] bcast_S_S256x256 (constant (F := Ideal) S_ .f32 0x42000000#32))) bitsLt_bf16_f32 (ix2 j x) = segment j x := by
  have e : truncf (F := Ideal) .bf16 (Host.divf (F := Ideal) (φ := .f32) (shapeCast S256x256 groups shapeCasts_S8x32x8x32_S256x256)
        (broadcastInDim S256x256 ![] bcast_S_S256x256 (constant (F := Ideal) S_ .f32 0x42000000#32))) bitsLt_bf16_f32 (ix2 j x)
      = Ideal.div (eye (ix2 ⟨j.val / 32, by omega⟩ ⟨x.val / 32, by omega⟩) * 1) (Ideal.ofBits .f32 0x42000000#32) := by
    unfold groups
    generalize eye = y
    pointwise
  rw [e, eye_at, mul_one]
  unfold Cert.Layer.segment
  congr 1
  simp only [Fin.ext_iff]

theorem cast_v12 (y : FVec Ideal S1024x3080 .f32) (k : Fin 1024) (j : Fin 3080) :
    truncf (F := Ideal) .bf16 (pad S1024x3200 ![0, 0] ![0, 120] ![0, 0] y (sitofp (F := Ideal) .f32 (constantI S_ 32 0#32)) pads_S1024x3080_S1024x3200_000_01200 h_S_) bitsLt_bf16_f32 (ix2 k ⟨j.val, by omega⟩)
      = y (ix2 k j) := by
  show pad S1024x3200 ![0, 0] ![0, 120] ![0, 0] y (sitofp (F := Ideal) .f32 (constantI S_ 32 0#32)) pads_S1024x3080_S1024x3200_000_01200 h_S_ (ix2 k ⟨j.val, _⟩) = _
  refine pad_apply_of_inside _ _ _ _ _ _ _ _ _ fun a => ?_
  match a with
  | ⟨0, _⟩ => exact (show k.val = 0 + k.val * (0 + 1) by omega)
  | ⟨1, _⟩ => exact (show j.val = 0 + j.val * (0 + 1) by omega)

theorem cast_v12_rest (y : FVec Ideal S1024x3080 .f32) (k : Fin 1024) (j : Fin 3200) (hj : 3080 ≤ j.val) :
    truncf (F := Ideal) .bf16 (pad S1024x3200 ![0, 0] ![0, 120] ![0, 0] y (sitofp (F := Ideal) .f32 (constantI S_ 32 0#32)) pads_S1024x3080_S1024x3200_000_01200 h_S_) bitsLt_bf16_f32 (ix2 k j)
      = (0 : EReal) := by
  show pad S1024x3200 ![0, 0] ![0, 120] ![0, 0] y (sitofp (F := Ideal) .f32 (constantI S_ 32 0#32)) pads_S1024x3080_S1024x3200_000_01200 h_S_ (ix2 k j) = _
  refine (pad_apply_of_not_inside _ _ _ _ _ _ _ _ (1 : Fin 2) ?_).trans ?_
  · intro h
    have h2 : (j.val - 0) / (0 + 1) < 3080 := h.2.2
    omega
  · show (((0#32 : BitVec 32).toInt : ℝ) : EReal) = 0
    simp

theorem block_ada (t : Fin grid0.N) (x : Fin 6144) :
    (iblk m c 1 t : Vec Ideal S1x1x6144 .f32) (ix3 0 0 x) = m ((c : Thread nD τ).loc main_arg1) (ix2 (bat t) x) := by
  refine Eq.trans ?_ ((congrFun (V_v24 m c) (ix3 (bat t) 0 x)).trans (cast_v24 _ (bat t) x))
  unfold iblk
  rw [View.read_apply]
  show V m c main_v24 _ = V m c main_v24 _
  congr 1
  funext a
  obtain ⟨h0, h1, h2⟩ := index_ada t
  match a with
  | ⟨0, _⟩ => exact Fin.ext (by show win0_1.index t 0 * 1 + 1 * 0 = _; rw [h0]; simp)
  | ⟨1, _⟩ => exact Fin.ext (by show win0_1.index t 1 * 1 + 1 * 0 = 0; rw [h1])
  | ⟨2, _⟩ => exact Fin.ext (by show win0_1.index t 2 * 6144 + 1 * x.val = x.val; rw [h2]; omega)

theorem block_nw (t : Fin grid0.N) (x : Fin 1024) :
    (iblk m c 2 t : Vec Ideal S1x1024 .f32) (ix2 0 x) = m ((c : Thread nD τ).loc main_arg2) (ix1 x) := by
  refine Eq.trans ?_ ((congrFun (V_v10 m c) (ix2 0 x)).trans (cast_v10 _ x))
  unfold iblk
  rw [View.read_apply]
  show V m c main_v10 _ = V m c main_v10 _
  congr 1
  funext a
  obtain ⟨⟨h0, h1⟩, -⟩ := index_whole t
  match a with
  | ⟨0, _⟩ => exact Fin.ext (by show win0_2.index t 0 * 1 + 1 * 0 = 0; rw [h0])
  | ⟨1, _⟩ => exact Fin.ext (by show win0_2.index t 1 * 1024 + 1 * x.val = x.val; rw [h1]; omega)

theorem block_w (t : Fin grid0.N) (k : Fin 1024) (j : Fin 3080) :
    (iblk m c 3 t : Vec Ideal S1024x3200 .bf16) (ix2 k ⟨j.val, by omega⟩) = m ((c : Thread nD τ).loc main_arg3) (ix2 k j) := by
  refine Eq.trans ?_ ((congrFun (V_v12 m c) (ix2 k ⟨j.val, by omega⟩)).trans (cast_v12 _ k j))
  unfold iblk
  rw [View.read_apply]
  show V m c main_v12 _ = V m c main_v12 _
  congr 1
  funext a
  obtain ⟨-, ⟨h0, h1⟩, -⟩ := index_whole t
  match a with
  | ⟨0, _⟩ => exact Fin.ext (by show win0_3.index t 0 * 1024 + 1 * k.val = k.val; rw [h0]; omega)
  | ⟨1, _⟩ => exact Fin.ext (by show win0_3.index t 1 * 3200 + 1 * j.val = j.val; rw [h1]; omega)

theorem block_w_rest (t : Fin grid0.N) (k : Fin 1024) (j : Fin 3200) (hj : 3080 ≤ j.val) :
    (iblk m c 3 t : Vec Ideal S1024x3200 .bf16) (ix2 k j) = (0 : EReal) := by
  refine Eq.trans ?_ ((congrFun (V_v12 m c) (ix2 k j)).trans (cast_v12_rest _ k j hj))
  unfold iblk
  rw [View.read_apply]
  show V m c main_v12 _ = V m c main_v12 _
  congr 1
  funext a
  obtain ⟨-, ⟨h0, h1⟩, -⟩ := index_whole t
  match a with
  | ⟨0, _⟩ => exact Fin.ext (by show win0_3.index t 0 * 1024 + 1 * k.val = k.val; rw [h0]; omega)
  | ⟨1, _⟩ => exact Fin.ext (by show win0_3.index t 1 * 3200 + 1 * j.val = j.val; rw [h1]; omega)

/-- The weights of the queries' norm and of the keys'. -/
abbrev queryWeight (l : Fin 32) : EReal := m ((c : Thread nD τ).loc main_arg4) (ix1 l)
abbrev keyWeight (l : Fin 32) : EReal := m ((c : Thread nD τ).loc main_arg5) (ix1 l)

theorem block_qw (t : Fin grid0.N) (x : Fin 256) :
    (iblk m c 4 t : Vec Ideal S1x256 .f32) (ix2 0 x) = queryWeight m c (inGroup x) * Ideal.ofBits .f32 0x3E3504F3#32 := by
  refine Eq.trans ?_ ((congrFun (V_v18 m c) (ix2 0 x)).trans (cast_v18 _ x))
  unfold iblk
  rw [View.read_apply]
  show V m c main_v18 _ = V m c main_v18 _
  congr 1
  funext a
  obtain ⟨-, -, ⟨h0, h1⟩, -⟩ := index_whole t
  match a with
  | ⟨0, _⟩ => exact Fin.ext (by show win0_4.index t 0 * 1 + 1 * 0 = 0; rw [h0])
  | ⟨1, _⟩ => exact Fin.ext (by show win0_4.index t 1 * 256 + 1 * x.val = x.val; rw [h1]; omega)

theorem block_kw (t : Fin grid0.N) (x : Fin 256) :
    (iblk m c 5 t : Vec Ideal S1x256 .f32) (ix2 0 x) = keyWeight m c (inGroup x) := by
  refine Eq.trans ?_ ((congrFun (V_v22 m c) (ix2 0 x)).trans (cast_v22 _ x))
  unfold iblk
  rw [View.read_apply]
  show V m c main_v22 _ = V m c main_v22 _
  congr 1
  funext a
  obtain ⟨-, -, -, ⟨h0, h1⟩, -⟩ := index_whole t
  match a with
  | ⟨0, _⟩ => exact Fin.ext (by show win0_5.index t 0 * 1 + 1 * 0 = 0; rw [h0])
  | ⟨1, _⟩ => exact Fin.ext (by show win0_5.index t 1 * 256 + 1 * x.val = x.val; rw [h1]; omega)

theorem block_seg (t : Fin grid0.N) (j x : Fin 256) :
    (iblk m c 6 t : Vec Ideal S256x256 .bf16) (ix2 j x) = segment j x := by
  refine Eq.trans ?_ ((congrFun (V_v23 m c) (ix2 j x)).trans (cast_v23 j x))
  unfold iblk
  rw [View.read_apply]
  show V m c main_v23 _ = V m c main_v23 _
  congr 1
  funext a
  obtain ⟨-, -, -, -, h0, h1⟩ := index_whole t
  match a with
  | ⟨0, _⟩ => exact Fin.ext (by show win0_6.index t 0 * 256 + 1 * j.val = j.val; rw [h0]; omega)
  | ⟨1, _⟩ => exact Fin.ext (by show win0_6.index t 1 * 256 + 1 * x.val = x.val; rw [h1]; omega)

/-- A column of a token's projection. -/
def column (b : Fin 16) (t : Fin 4096) (j : Fin 3080) : EReal :=
  projected (hidden (fun k => m ((c : Thread nD τ).loc main_arg0) (ix3 b t k)) (fun k => m ((c : Thread nD τ).loc main_arg2) (ix1 k)) (fun k => m ((c : Thread nD τ).loc main_arg1) (ix2 b k)))
    (fun k => m ((c : Thread nD τ).loc main_arg3) (ix2 k j))

/-- The projection of a block. -/
abbrev proj (t : Fin grid0.N) : FVec Ideal S512x3200 .f32 :=
  k0_pay2 (iblk m c 0 t : Vec Ideal S1x512x1024 .f32) (iblk m c 1 t : Vec Ideal S1x1x6144 .f32) (iblk m c 2 t : Vec Ideal S1x1024 .f32) (iblk m c 3 t : Vec Ideal S1024x3200 .bf16)

theorem proj_column (t : Fin grid0.N) (r : Fin 512) (i : Fin 3200) (j : Fin 3080) (hij : i.val = j.val) : proj m c t (ix2 r i) = column m c (bat t) (token t r) j := by
  have hi : i = ⟨j.val, by omega⟩ := Fin.ext hij
  rw [hi]
  refine (proj_at (iblk m c 0 t) (iblk m c 1 t) (iblk m c 2 t) (iblk m c 3 t) r _).trans ?_
  simp only [block_x, block_ada, block_nw, block_w]
  rfl

theorem proj_rest (t : Fin grid0.N) (r : Fin 512) (j : Fin 3200) (hj : 3080 ≤ j.val) : proj m c t (ix2 r j) = (0 : EReal) := by
  refine (proj_at (iblk m c 0 t) (iblk m c 1 t) (iblk m c 2 t) (iblk m c 3 t) r _).trans ?_
  unfold projected
  refine Finset.sum_eq_zero fun k _ => ?_
  exact (congrArg (_ * ·) (block_w_rest m c t k j hj)).trans (mul_zero _)

/-- The column of head `h`'s lane `l`. -/
abbrev lane (h : Fin 4) (l : Fin 64) : Fin 256 := ⟨64 * h.val + l.val, by omega⟩

end Cert.Kernel3Ideal.Premix

end
-- ==== Proof.PremixArray.lean ====
/-
  What the seven result arrays of the input projection hold after the run.
-/
module

public import proofs.«01_k».proof.Proof.PremixBlock

@[expose] public section

set_option maxRecDepth 16384

noncomputable section
namespace Cert.Kernel3Ideal.Premix
open Cert.Layer Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The values at an index of the results. -/
def hyena (b : Fin 16) (t : Fin 4096) (d : Fin 768) : EReal := column m c b t ⟨d.val, by omega⟩
def retention (b : Fin 16) (t : Fin 4096) (d : Fin 768) : EReal := column m c b t ⟨1536 + d.val, by omega⟩
def scan (b : Fin 16) (t : Fin 4096) (d : Fin 768) : EReal := column m c b t ⟨2304 + d.val, by omega⟩
def step (b : Fin 16) (t : Fin 4096) (d : Fin 128) : EReal := if h : d.val < 8 then column m c b t ⟨3072 + d.val, by omega⟩ else 0
def query (b : Fin 16) (h : Fin 4) (t : Fin 4096) (l : Fin 64) : EReal :=
  normed (fun x => column m c b t ⟨768 + x.val, by omega⟩) (lane h l) * queryWeight m c (inGroup (lane h l)) * Ideal.ofBits .f32 0x3E3504F3#32
def key (b : Fin 16) (h : Fin 4) (t : Fin 4096) (l : Fin 64) : EReal :=
  normed (fun x => column m c b t ⟨1024 + x.val, by omega⟩) (lane h l) * keyWeight m c (inGroup (lane h l))
def val (b : Fin 16) (h : Fin 4) (t : Fin 4096) (l : Fin 64) : EReal := column m c b t ⟨1280 + (lane h l).val, by have := (lane h l).isLt; omega⟩

/-- The norm of a block's columns, when they are of real numbers. -/
theorem norm_eq (t : Fin grid0.N) (r : Fin 512) (p : Fin 256 → EReal) (hp : ∀ j, ∃ x : ℝ, p j = x) (g : Fin 256 → Fin 256 → EReal) (hg : ∀ j x, g j x = segment j x) (x : Fin 256) :
    p x * Ideal.rsqrt (∑ j, p j * p j * g j x + ∑ j, (p j * p j - p j * p j) * g j x + Ideal.ofBits .f32 0x358637BD#32) = normed p x := by
  simp only [hg]
  rw [segment_sum p x hp]
  rfl

def result7 : Buf (Elt Ideal) ((c : Thread nD τ).loc main_v25_0) := fun (j : S16x4096x768.Idx) => hyena m c (j 0) (j 1) (j 2)

theorem flushed7_at (t : Fin cfg0.N) (r : Fin 512) (d : Fin 768) :
    ((dats m 0 c).flushed 7 t : Vec Ideal S1x512x768 .f32) (ix3 0 r d) = hyena m c (bat t) (token t r) d := by
  rw [Value.flushed7]
  unfold_out out0_7
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon7_eq (iblk m c 0 t) (iblk m c 1 t) (iblk m c 2 t) (iblk m c 3 t) (ix3 0 r d)).trans ?_
  refine (show proj m c t (Value.ix7_0 (ix3 0 r d)) = proj m c t (ix2 r ⟨0 + d.val, by omega⟩) from congrArg _ (funext fun a => Fin.ext (by match a with | ⟨0, _⟩ => rfl | ⟨1, _⟩ => exact (show d.val = 0 + d.val by omega)))).trans ?_
  exact proj_column m c t r _ _ (by show 0 + d.val = d.val; omega)

theorem flushed7_eq (t : Fin cfg0.N) : (dats m 0 c).flushed 7 t = ((cfg0.win 7).blk t).view.read (Elt Ideal) (result7 m c) := by
  funext j
  obtain ⟨r, hr⟩ : ∃ r : Fin 512, r.val = (j 1).val := ⟨⟨(j 1).val, (j 1).isLt⟩, rfl⟩
  obtain ⟨d, hd⟩ : ∃ d : Fin 768, d.val = (j 2).val := ⟨⟨(j 2).val, (j 2).isLt⟩, rfl⟩
  have hj : (j : S1x512x768.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed7_at m c t r d).trans ?_
  rw [View.read_apply]
  obtain ⟨h0, h1, h2⟩ := index_7 t
  show hyena m c _ _ _ = hyena m c _ _ _
  congr 1
  · exact Fin.ext (by show _ = win0_7.index t 0 * 1 + 1 * 0; rw [h0]; simp)
  · exact Fin.ext (by show 512 * (grid0.coords t 1).val + r.val = win0_7.index t 1 * 512 + 1 * r.val; rw [h1]; omega)
  · exact Fin.ext (by show d.val = win0_7.index t 2 * 768 + 1 * d.val; rw [h2]; omega)

theorem final7 : (dats m 0 c).arrAt 7 cfg0.N = result7 m c :=
  (dats m 0 c).arrAt_eq_of_cover 7 (result7 m c) (fun t _ => flushed7_eq m c t) fun (i : S16x4096x768.Idx) => by
    have h0 : (i 0 : Nat) < 16 := (i 0).isLt
    have h1 : (i 1 : Nat) < 4096 := (i 1).isLt
    have h2 : (i 2 : Nat) < 768 := (i 2).isLt
    have hN : grid0.N = 128 := N_0
    obtain ⟨p, hp⟩ : ∃ p : Fin grid0.N, p.val = (i 0 : Nat) * 8 + (i 1 : Nat) / 512 := ⟨⟨_, by omega⟩, rfl⟩
    refine ⟨p, flush0_7 _, ?_⟩
    show i ∈ ((View.whole main_v25_0).slice (win0_7.rect p)).set
    rw [View.set_slice_whole, Rect.mem_set_unit]
    intro a
    obtain ⟨e0, e1, e2⟩ := index_7 p
    obtain ⟨c0, c1⟩ := coords_at p
    match a with
    | ⟨0, _⟩ => show win0_7.index p 0 * 1 ≤ (i 0 : Nat) ∧ (i 0 : Nat) < win0_7.index p 0 * 1 + 1
                rw [e0, c0, hp]; omega
    | ⟨1, _⟩ => show win0_7.index p 1 * 512 ≤ (i 1 : Nat) ∧ (i 1 : Nat) < win0_7.index p 1 * 512 + 512
                rw [e1, c1, hp]; omega
    | ⟨2, _⟩ => show win0_7.index p 2 * 768 ≤ (i 2 : Nat) ∧ (i 2 : Nat) < win0_7.index p 2 * 768 + 768
                rw [e2]; omega

def result11 : Buf (Elt Ideal) ((c : Thread nD τ).loc main_v25_4) := fun (j : S16x4096x768.Idx) => retention m c (j 0) (j 1) (j 2)

theorem flushed11_at (t : Fin cfg0.N) (r : Fin 512) (d : Fin 768) :
    ((dats m 0 c).flushed 11 t : Vec Ideal S1x512x768 .f32) (ix3 0 r d) = retention m c (bat t) (token t r) d := by
  rw [Value.flushed11]
  unfold_out out0_11
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon11_eq (iblk m c 0 t) (iblk m c 1 t) (iblk m c 2 t) (iblk m c 3 t) (ix3 0 r d)).trans ?_
  refine (show proj m c t (Value.ix11_0 (ix3 0 r d)) = proj m c t (ix2 r ⟨1536 + d.val, by omega⟩) from congrArg _ (funext fun a => Fin.ext (by match a with | ⟨0, _⟩ => rfl | ⟨1, _⟩ => exact (show d.val + 1536 = 1536 + d.val by omega)))).trans ?_
  exact proj_column m c t r _ _ (by show 1536 + d.val = 1536 + d.val; omega)

theorem flushed11_eq (t : Fin cfg0.N) : (dats m 0 c).flushed 11 t = ((cfg0.win 11).blk t).view.read (Elt Ideal) (result11 m c) := by
  funext j
  obtain ⟨r, hr⟩ : ∃ r : Fin 512, r.val = (j 1).val := ⟨⟨(j 1).val, (j 1).isLt⟩, rfl⟩
  obtain ⟨d, hd⟩ : ∃ d : Fin 768, d.val = (j 2).val := ⟨⟨(j 2).val, (j 2).isLt⟩, rfl⟩
  have hj : (j : S1x512x768.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed11_at m c t r d).trans ?_
  rw [View.read_apply]
  obtain ⟨h0, h1, h2⟩ := index_11 t
  show retention m c _ _ _ = retention m c _ _ _
  congr 1
  · exact Fin.ext (by show _ = win0_11.index t 0 * 1 + 1 * 0; rw [h0]; simp)
  · exact Fin.ext (by show 512 * (grid0.coords t 1).val + r.val = win0_11.index t 1 * 512 + 1 * r.val; rw [h1]; omega)
  · exact Fin.ext (by show d.val = win0_11.index t 2 * 768 + 1 * d.val; rw [h2]; omega)

theorem final11 : (dats m 0 c).arrAt 11 cfg0.N = result11 m c :=
  (dats m 0 c).arrAt_eq_of_cover 11 (result11 m c) (fun t _ => flushed11_eq m c t) fun (i : S16x4096x768.Idx) => by
    have h0 : (i 0 : Nat) < 16 := (i 0).isLt
    have h1 : (i 1 : Nat) < 4096 := (i 1).isLt
    have h2 : (i 2 : Nat) < 768 := (i 2).isLt
    have hN : grid0.N = 128 := N_0
    obtain ⟨p, hp⟩ : ∃ p : Fin grid0.N, p.val = (i 0 : Nat) * 8 + (i 1 : Nat) / 512 := ⟨⟨_, by omega⟩, rfl⟩
    refine ⟨p, flush0_11 _, ?_⟩
    show i ∈ ((View.whole main_v25_4).slice (win0_11.rect p)).set
    rw [View.set_slice_whole, Rect.mem_set_unit]
    intro a
    obtain ⟨e0, e1, e2⟩ := index_11 p
    obtain ⟨c0, c1⟩ := coords_at p
    match a with
    | ⟨0, _⟩ => show win0_11.index p 0 * 1 ≤ (i 0 : Nat) ∧ (i 0 : Nat) < win0_11.index p 0 * 1 + 1
                rw [e0, c0, hp]; omega
    | ⟨1, _⟩ => show win0_11.index p 1 * 512 ≤ (i 1 : Nat) ∧ (i 1 : Nat) < win0_11.index p 1 * 512 + 512
                rw [e1, c1, hp]; omega
    | ⟨2, _⟩ => show win0_11.index p 2 * 768 ≤ (i 2 : Nat) ∧ (i 2 : Nat) < win0_11.index p 2 * 768 + 768
                rw [e2]; omega

def result12 : Buf (Elt Ideal) ((c : Thread nD τ).loc main_v25_5) := fun (j : S16x4096x768.Idx) => scan m c (j 0) (j 1) (j 2)

theorem flushed12_at (t : Fin cfg0.N) (r : Fin 512) (d : Fin 768) :
    ((dats m 0 c).flushed 12 t : Vec Ideal S1x512x768 .f32) (ix3 0 r d) = scan m c (bat t) (token t r) d := by
  rw [Value.flushed12]
  unfold_out out0_12
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon12_eq (iblk m c 0 t) (iblk m c 1 t) (iblk m c 2 t) (iblk m c 3 t) (ix3 0 r d)).trans ?_
  refine (show proj m c t (Value.ix12_0 (ix3 0 r d)) = proj m c t (ix2 r ⟨2304 + d.val, by omega⟩) from congrArg _ (funext fun a => Fin.ext (by match a with | ⟨0, _⟩ => rfl | ⟨1, _⟩ => exact (show d.val + 2304 = 2304 + d.val by omega)))).trans ?_
  exact proj_column m c t r _ _ (by show 2304 + d.val = 2304 + d.val; omega)

theorem flushed12_eq (t : Fin cfg0.N) : (dats m 0 c).flushed 12 t = ((cfg0.win 12).blk t).view.read (Elt Ideal) (result12 m c) := by
  funext j
  obtain ⟨r, hr⟩ : ∃ r : Fin 512, r.val = (j 1).val := ⟨⟨(j 1).val, (j 1).isLt⟩, rfl⟩
  obtain ⟨d, hd⟩ : ∃ d : Fin 768, d.val = (j 2).val := ⟨⟨(j 2).val, (j 2).isLt⟩, rfl⟩
  have hj : (j : S1x512x768.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed12_at m c t r d).trans ?_
  rw [View.read_apply]
  obtain ⟨h0, h1, h2⟩ := index_12 t
  show scan m c _ _ _ = scan m c _ _ _
  congr 1
  · exact Fin.ext (by show _ = win0_12.index t 0 * 1 + 1 * 0; rw [h0]; simp)
  · exact Fin.ext (by show 512 * (grid0.coords t 1).val + r.val = win0_12.index t 1 * 512 + 1 * r.val; rw [h1]; omega)
  · exact Fin.ext (by show d.val = win0_12.index t 2 * 768 + 1 * d.val; rw [h2]; omega)

theorem final12 : (dats m 0 c).arrAt 12 cfg0.N = result12 m c :=
  (dats m 0 c).arrAt_eq_of_cover 12 (result12 m c) (fun t _ => flushed12_eq m c t) fun (i : S16x4096x768.Idx) => by
    have h0 : (i 0 : Nat) < 16 := (i 0).isLt
    have h1 : (i 1 : Nat) < 4096 := (i 1).isLt
    have h2 : (i 2 : Nat) < 768 := (i 2).isLt
    have hN : grid0.N = 128 := N_0
    obtain ⟨p, hp⟩ : ∃ p : Fin grid0.N, p.val = (i 0 : Nat) * 8 + (i 1 : Nat) / 512 := ⟨⟨_, by omega⟩, rfl⟩
    refine ⟨p, flush0_12 _, ?_⟩
    show i ∈ ((View.whole main_v25_5).slice (win0_12.rect p)).set
    rw [View.set_slice_whole, Rect.mem_set_unit]
    intro a
    obtain ⟨e0, e1, e2⟩ := index_12 p
    obtain ⟨c0, c1⟩ := coords_at p
    match a with
    | ⟨0, _⟩ => show win0_12.index p 0 * 1 ≤ (i 0 : Nat) ∧ (i 0 : Nat) < win0_12.index p 0 * 1 + 1
                rw [e0, c0, hp]; omega
    | ⟨1, _⟩ => show win0_12.index p 1 * 512 ≤ (i 1 : Nat) ∧ (i 1 : Nat) < win0_12.index p 1 * 512 + 512
                rw [e1, c1, hp]; omega
    | ⟨2, _⟩ => show win0_12.index p 2 * 768 ≤ (i 2 : Nat) ∧ (i 2 : Nat) < win0_12.index p 2 * 768 + 768
                rw [e2]; omega

def result13 : Buf (Elt Ideal) ((c : Thread nD τ).loc main_v25_6) := fun (j : S16x4096x128.Idx) => step m c (j 0) (j 1) (j 2)

theorem flushed13_at (t : Fin cfg0.N) (r : Fin 512) (d : Fin 128) :
    ((dats m 0 c).flushed 13 t : Vec Ideal S1x512x128 .f32) (ix3 0 r d) = step m c (bat t) (token t r) d := by
  rw [Value.flushed13]
  unfold_out out0_13
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon13_eq (iblk m c 0 t) (iblk m c 1 t) (iblk m c 2 t) (iblk m c 3 t) (ix3 0 r d)).trans ?_
  refine (show proj m c t (Value.ix13_0 (ix3 0 r d)) = proj m c t (ix2 r ⟨3072 + d.val, by omega⟩) from congrArg _ (funext fun a => Fin.ext (by match a with | ⟨0, _⟩ => rfl | ⟨1, _⟩ => exact (show d.val + 3072 = 3072 + d.val by omega)))).trans ?_
  unfold step
  split
  · exact proj_column m c t r _ _ rfl
  · exact proj_rest m c t r _ (by show 3080 ≤ 3072 + d.val; omega)

theorem flushed13_eq (t : Fin cfg0.N) : (dats m 0 c).flushed 13 t = ((cfg0.win 13).blk t).view.read (Elt Ideal) (result13 m c) := by
  funext j
  obtain ⟨r, hr⟩ : ∃ r : Fin 512, r.val = (j 1).val := ⟨⟨(j 1).val, (j 1).isLt⟩, rfl⟩
  obtain ⟨d, hd⟩ : ∃ d : Fin 128, d.val = (j 2).val := ⟨⟨(j 2).val, (j 2).isLt⟩, rfl⟩
  have hj : (j : S1x512x128.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed13_at m c t r d).trans ?_
  rw [View.read_apply]
  obtain ⟨h0, h1, h2⟩ := index_13 t
  show step m c _ _ _ = step m c _ _ _
  congr 1
  · exact Fin.ext (by show _ = win0_13.index t 0 * 1 + 1 * 0; rw [h0]; simp)
  · exact Fin.ext (by show 512 * (grid0.coords t 1).val + r.val = win0_13.index t 1 * 512 + 1 * r.val; rw [h1]; omega)
  · exact Fin.ext (by show d.val = win0_13.index t 2 * 128 + 1 * d.val; rw [h2]; omega)

theorem final13 : (dats m 0 c).arrAt 13 cfg0.N = result13 m c :=
  (dats m 0 c).arrAt_eq_of_cover 13 (result13 m c) (fun t _ => flushed13_eq m c t) fun (i : S16x4096x128.Idx) => by
    have h0 : (i 0 : Nat) < 16 := (i 0).isLt
    have h1 : (i 1 : Nat) < 4096 := (i 1).isLt
    have h2 : (i 2 : Nat) < 128 := (i 2).isLt
    have hN : grid0.N = 128 := N_0
    obtain ⟨p, hp⟩ : ∃ p : Fin grid0.N, p.val = (i 0 : Nat) * 8 + (i 1 : Nat) / 512 := ⟨⟨_, by omega⟩, rfl⟩
    refine ⟨p, flush0_13 _, ?_⟩
    show i ∈ ((View.whole main_v25_6).slice (win0_13.rect p)).set
    rw [View.set_slice_whole, Rect.mem_set_unit]
    intro a
    obtain ⟨e0, e1, e2⟩ := index_13 p
    obtain ⟨c0, c1⟩ := coords_at p
    match a with
    | ⟨0, _⟩ => show win0_13.index p 0 * 1 ≤ (i 0 : Nat) ∧ (i 0 : Nat) < win0_13.index p 0 * 1 + 1
                rw [e0, c0, hp]; omega
    | ⟨1, _⟩ => show win0_13.index p 1 * 512 ≤ (i 1 : Nat) ∧ (i 1 : Nat) < win0_13.index p 1 * 512 + 512
                rw [e1, c1, hp]; omega
    | ⟨2, _⟩ => show win0_13.index p 2 * 128 ≤ (i 2 : Nat) ∧ (i 2 : Nat) < win0_13.index p 2 * 128 + 128
                rw [e2]; omega

/-- A block's columns from column `o` on. -/
theorem proj_part (t : Fin grid0.N) (r : Fin 512) (o : ℕ) (ho : o + 256 ≤ 3080) (x : Fin 256) : proj m c t (ix2 r ⟨o + x.val, by omega⟩) = column m c (bat t) (token t r) ⟨o + x.val, by omega⟩ :=
  proj_column m c t r _ _ rfl

def result8 : Buf (Elt Ideal) ((c : Thread nD τ).loc main_v25_1) := fun (j : S16x4x4096x64.Idx) => query m c (j 0) (j 1) (j 2) (j 3)

theorem flushed8_at (real : ∀ b t j, ∃ x : ℝ, column m c b t j = x) (t : Fin cfg0.N) (h : Fin 4) (r : Fin 512) (l : Fin 64) :
    ((dats m 0 c).flushed 8 t : Vec Ideal S1x4x512x64 .bf16) (ix4 0 h r l) = query m c (bat t) h (token t r) l := by
  rw [Value.flushed8]
  unfold_out out0_8
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon8_eq (iblk m c 0 t) (iblk m c 1 t) (iblk m c 2 t) (iblk m c 3 t) (iblk m c 6 t) (iblk m c 4 t) (ix4 0 h r l)).trans ?_
  have hi : Value.ix8_0 (ix4 0 h r l) = ix2 r (lane h l) := funext fun a => Fin.ext (by match a with | ⟨0, _⟩ => rfl | ⟨1, _⟩ => exact (show h.val * 64 + l.val = 64 * h.val + l.val by omega))
  show k0_pay9 (proj m c t) (iblk m c 6 t) (iblk m c 4 t) (Value.ix8_0 (ix4 0 h r l)) = _
  rw [hi]
  refine (query_at (proj m c t) (iblk m c 6 t) (iblk m c 4 t) r (lane h l)).trans ?_
  rw [norm_eq t r (fun x => proj m c t (ix2 r ⟨768 + x.val, by omega⟩)) (fun x => by simp only [proj_part m c t r 768 (by decide)]; exact real _ _ _)
    (fun j x => (iblk m c 6 t : Vec Ideal S256x256 .bf16) (ix2 j x)) (fun j x => block_seg m c t j x) (lane h l), block_qw]
  simp only [proj_part m c t r 768 (by decide)]
  rw [← mul_assoc]
  rfl

theorem flushed8_eq (real : ∀ b t j, ∃ x : ℝ, column m c b t j = x) (t : Fin cfg0.N) : (dats m 0 c).flushed 8 t = ((cfg0.win 8).blk t).view.read (Elt Ideal) (result8 m c) := by
  funext j
  obtain ⟨h, hh⟩ : ∃ h : Fin 4, h.val = (j 1).val := ⟨⟨(j 1).val, (j 1).isLt⟩, rfl⟩
  obtain ⟨r, hr⟩ : ∃ r : Fin 512, r.val = (j 2).val := ⟨⟨(j 2).val, (j 2).isLt⟩, rfl⟩
  obtain ⟨l, hl⟩ : ∃ l : Fin 64, l.val = (j 3).val := ⟨⟨(j 3).val, (j 3).isLt⟩, rfl⟩
  have hj : (j : S1x4x512x64.Idx) = ix4 0 h r l := by
    funext a
    match a with
    | ⟨0, _⟩ => exact Fin.ext (by have : (j 0).val < 1 := (j 0).isLt; show (j 0).val = 0; omega)
    | ⟨1, _⟩ => exact Fin.ext hh.symm
    | ⟨2, _⟩ => exact Fin.ext hr.symm
    | ⟨3, _⟩ => exact Fin.ext hl.symm
  rw [hj]
  refine (flushed8_at m c real t h r l).trans ?_
  rw [View.read_apply]
  obtain ⟨h0, h1, h2, h3⟩ := index_8 t
  show query m c _ _ _ _ = query m c _ _ _ _
  congr 1
  · exact Fin.ext (by show _ = win0_8.index t 0 * 1 + 1 * 0; rw [h0]; simp)
  · exact Fin.ext (by show h.val = win0_8.index t 1 * 4 + 1 * h.val; rw [h1]; omega)
  · exact Fin.ext (by show 512 * (grid0.coords t 1).val + r.val = win0_8.index t 2 * 512 + 1 * r.val; rw [h2]; omega)
  · exact Fin.ext (by show l.val = win0_8.index t 3 * 64 + 1 * l.val; rw [h3]; omega)

theorem final8 (real : ∀ b t j, ∃ x : ℝ, column m c b t j = x) : (dats m 0 c).arrAt 8 cfg0.N = result8 m c :=
  (dats m 0 c).arrAt_eq_of_cover 8 (result8 m c) (fun t _ => flushed8_eq m c real t) fun (i : S16x4x4096x64.Idx) => by
    have h0 : (i 0 : Nat) < 16 := (i 0).isLt
    have h1 : (i 1 : Nat) < 4 := (i 1).isLt
    have h2 : (i 2 : Nat) < 4096 := (i 2).isLt
    have h3 : (i 3 : Nat) < 64 := (i 3).isLt
    have hN : grid0.N = 128 := N_0
    obtain ⟨p, hp⟩ : ∃ p : Fin grid0.N, p.val = (i 0 : Nat) * 8 + (i 2 : Nat) / 512 := ⟨⟨_, by omega⟩, rfl⟩
    refine ⟨p, flush0_8 _, ?_⟩
    show i ∈ ((View.whole main_v25_1).slice (win0_8.rect p)).set
    rw [View.set_slice_whole, Rect.mem_set_unit]
    intro a
    obtain ⟨e0, e1, e2, e3⟩ := index_8 p
    obtain ⟨c0, c1⟩ := coords_at p
    match a with
    | ⟨0, _⟩ => show win0_8.index p 0 * 1 ≤ (i 0 : Nat) ∧ (i 0 : Nat) < win0_8.index p 0 * 1 + 1
                rw [e0, c0, hp]; omega
    | ⟨1, _⟩ => show win0_8.index p 1 * 4 ≤ (i 1 : Nat) ∧ (i 1 : Nat) < win0_8.index p 1 * 4 + 4
                rw [e1]; omega
    | ⟨2, _⟩ => show win0_8.index p 2 * 512 ≤ (i 2 : Nat) ∧ (i 2 : Nat) < win0_8.index p 2 * 512 + 512
                rw [e2, c1, hp]; omega
    | ⟨3, _⟩ => show win0_8.index p 3 * 64 ≤ (i 3 : Nat) ∧ (i 3 : Nat) < win0_8.index p 3 * 64 + 64
                rw [e3]; omega

def result9 : Buf (Elt Ideal) ((c : Thread nD τ).loc main_v25_2) := fun (j : S16x4x4096x64.Idx) => key m c (j 0) (j 1) (j 2) (j 3)

theorem flushed9_at (real : ∀ b t j, ∃ x : ℝ, column m c b t j = x) (t : Fin cfg0.N) (h : Fin 4) (r : Fin 512) (l : Fin 64) :
    ((dats m 0 c).flushed 9 t : Vec Ideal S1x4x512x64 .bf16) (ix4 0 h r l) = key m c (bat t) h (token t r) l := by
  rw [Value.flushed9]
  unfold_out out0_9
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon9_eq (iblk m c 0 t) (iblk m c 1 t) (iblk m c 2 t) (iblk m c 3 t) (iblk m c 6 t) (iblk m c 5 t) (ix4 0 h r l)).trans ?_
  have hi0 : Value.ix9_0 (ix4 0 h r l) = ix2 r ⟨1024 + (lane h l).val, by have := (lane h l).isLt; omega⟩ := funext fun a => Fin.ext (by match a with | ⟨0, _⟩ => rfl | ⟨1, _⟩ => exact (show h.val * 64 + l.val + 1024 = 1024 + (64 * h.val + l.val) by omega))
  have hi1 : Value.ix9_1 (ix4 0 h r l) = ix2 r (lane h l) := funext fun a => Fin.ext (by match a with | ⟨0, _⟩ => rfl | ⟨1, _⟩ => exact (show h.val * 64 + l.val = 64 * h.val + l.val by omega))
  have hi2 : Value.ix9_2 (ix4 0 h r l) = ix2 r (lane h l) := hi1
  have hi3 : Value.ix9_3 (ix4 0 h r l) = ix2 0 (lane h l) := funext fun a => Fin.ext (by match a with | ⟨0, _⟩ => rfl | ⟨1, _⟩ => exact (show h.val * 64 + l.val = 64 * h.val + l.val by omega))
  show proj m c t (Value.ix9_0 (ix4 0 h r l)) * Ideal.rsqrt (k0_pay14 (proj m c t) (iblk m c 6 t) (Value.ix9_1 (ix4 0 h r l)) + k0_pay15 (proj m c t) (iblk m c 6 t) (Value.ix9_2 (ix4 0 h r l)) + Ideal.ofBits .f32 0x358637BD#32)
    * (iblk m c 5 t : Vec Ideal S1x256 .f32) (Value.ix9_3 (ix4 0 h r l)) = _
  rw [hi0, hi1, hi2, hi3, key_sum_at, key_rest_at]
  rw [norm_eq t r (fun x => proj m c t (ix2 r ⟨1024 + x.val, by omega⟩)) (fun x => by simp only [proj_part m c t r 1024 (by decide)]; exact real _ _ _)
    (fun j x => (iblk m c 6 t : Vec Ideal S256x256 .bf16) (ix2 j x)) (fun j x => block_seg m c t j x) (lane h l), block_kw]
  simp only [proj_part m c t r 1024 (by decide)]
  rfl

theorem flushed9_eq (real : ∀ b t j, ∃ x : ℝ, column m c b t j = x) (t : Fin cfg0.N) : (dats m 0 c).flushed 9 t = ((cfg0.win 9).blk t).view.read (Elt Ideal) (result9 m c) := by
  funext j
  obtain ⟨h, hh⟩ : ∃ h : Fin 4, h.val = (j 1).val := ⟨⟨(j 1).val, (j 1).isLt⟩, rfl⟩
  obtain ⟨r, hr⟩ : ∃ r : Fin 512, r.val = (j 2).val := ⟨⟨(j 2).val, (j 2).isLt⟩, rfl⟩
  obtain ⟨l, hl⟩ : ∃ l : Fin 64, l.val = (j 3).val := ⟨⟨(j 3).val, (j 3).isLt⟩, rfl⟩
  have hj : (j : S1x4x512x64.Idx) = ix4 0 h r l := by
    funext a
    match a with
    | ⟨0, _⟩ => exact Fin.ext (by have : (j 0).val < 1 := (j 0).isLt; show (j 0).val = 0; omega)
    | ⟨1, _⟩ => exact Fin.ext hh.symm
    | ⟨2, _⟩ => exact Fin.ext hr.symm
    | ⟨3, _⟩ => exact Fin.ext hl.symm
  rw [hj]
  refine (flushed9_at m c real t h r l).trans ?_
  rw [View.read_apply]
  obtain ⟨h0, h1, h2, h3⟩ := index_9 t
  show key m c _ _ _ _ = key m c _ _ _ _
  congr 1
  · exact Fin.ext (by show _ = win0_9.index t 0 * 1 + 1 * 0; rw [h0]; simp)
  · exact Fin.ext (by show h.val = win0_9.index t 1 * 4 + 1 * h.val; rw [h1]; omega)
  · exact Fin.ext (by show 512 * (grid0.coords t 1).val + r.val = win0_9.index t 2 * 512 + 1 * r.val; rw [h2]; omega)
  · exact Fin.ext (by show l.val = win0_9.index t 3 * 64 + 1 * l.val; rw [h3]; omega)

theorem final9 (real : ∀ b t j, ∃ x : ℝ, column m c b t j = x) : (dats m 0 c).arrAt 9 cfg0.N = result9 m c :=
  (dats m 0 c).arrAt_eq_of_cover 9 (result9 m c) (fun t _ => flushed9_eq m c real t) fun (i : S16x4x4096x64.Idx) => by
    have h0 : (i 0 : Nat) < 16 := (i 0).isLt
    have h1 : (i 1 : Nat) < 4 := (i 1).isLt
    have h2 : (i 2 : Nat) < 4096 := (i 2).isLt
    have h3 : (i 3 : Nat) < 64 := (i 3).isLt
    have hN : grid0.N = 128 := N_0
    obtain ⟨p, hp⟩ : ∃ p : Fin grid0.N, p.val = (i 0 : Nat) * 8 + (i 2 : Nat) / 512 := ⟨⟨_, by omega⟩, rfl⟩
    refine ⟨p, flush0_9 _, ?_⟩
    show i ∈ ((View.whole main_v25_2).slice (win0_9.rect p)).set
    rw [View.set_slice_whole, Rect.mem_set_unit]
    intro a
    obtain ⟨e0, e1, e2, e3⟩ := index_9 p
    obtain ⟨c0, c1⟩ := coords_at p
    match a with
    | ⟨0, _⟩ => show win0_9.index p 0 * 1 ≤ (i 0 : Nat) ∧ (i 0 : Nat) < win0_9.index p 0 * 1 + 1
                rw [e0, c0, hp]; omega
    | ⟨1, _⟩ => show win0_9.index p 1 * 4 ≤ (i 1 : Nat) ∧ (i 1 : Nat) < win0_9.index p 1 * 4 + 4
                rw [e1]; omega
    | ⟨2, _⟩ => show win0_9.index p 2 * 512 ≤ (i 2 : Nat) ∧ (i 2 : Nat) < win0_9.index p 2 * 512 + 512
                rw [e2, c1, hp]; omega
    | ⟨3, _⟩ => show win0_9.index p 3 * 64 ≤ (i 3 : Nat) ∧ (i 3 : Nat) < win0_9.index p 3 * 64 + 64
                rw [e3]; omega

def result10 : Buf (Elt Ideal) ((c : Thread nD τ).loc main_v25_3) := fun (j : S16x4x4096x64.Idx) => val m c (j 0) (j 1) (j 2) (j 3)

theorem flushed10_at (t : Fin cfg0.N) (h : Fin 4) (r : Fin 512) (l : Fin 64) :
    ((dats m 0 c).flushed 10 t : Vec Ideal S1x4x512x64 .bf16) (ix4 0 h r l) = val m c (bat t) h (token t r) l := by
  rw [Value.flushed10]
  unfold_out out0_10
  simp only [View.ld_unit_zero (S := S1x512x1024) hz3, View.ld_unit_zero (S := S1x1x6144) hz3, View.ld_unit_zero (S := S1x1024) hz2, View.ld_unit_zero (S := S1024x3200) hz2, View.ld_unit_zero (S := S256x256) hz2, View.ld_unit_zero (S := S1x256) hz2]
  refine (Value.canon10_eq (iblk m c 0 t) (iblk m c 1 t) (iblk m c 2 t) (iblk m c 3 t) (ix4 0 h r l)).trans ?_
  have hi : Value.ix10_0 (ix4 0 h r l) = ix2 r ⟨1280 + (lane h l).val, by have := (lane h l).isLt; omega⟩ := funext fun a => Fin.ext (by match a with | ⟨0, _⟩ => rfl | ⟨1, _⟩ => exact (show h.val * 64 + l.val + 1280 = 1280 + (64 * h.val + l.val) by omega))
  show proj m c t (Value.ix10_0 (ix4 0 h r l)) = _
  rw [hi]
  exact proj_column m c t r _ _ rfl

theorem flushed10_eq (t : Fin cfg0.N) : (dats m 0 c).flushed 10 t = ((cfg0.win 10).blk t).view.read (Elt Ideal) (result10 m c) := by
  funext j
  obtain ⟨h, hh⟩ : ∃ h : Fin 4, h.val = (j 1).val := ⟨⟨(j 1).val, (j 1).isLt⟩, rfl⟩
  obtain ⟨r, hr⟩ : ∃ r : Fin 512, r.val = (j 2).val := ⟨⟨(j 2).val, (j 2).isLt⟩, rfl⟩
  obtain ⟨l, hl⟩ : ∃ l : Fin 64, l.val = (j 3).val := ⟨⟨(j 3).val, (j 3).isLt⟩, rfl⟩
  have hj : (j : S1x4x512x64.Idx) = ix4 0 h r l := by
    funext a
    match a with
    | ⟨0, _⟩ => exact Fin.ext (by have : (j 0).val < 1 := (j 0).isLt; show (j 0).val = 0; omega)
    | ⟨1, _⟩ => exact Fin.ext hh.symm
    | ⟨2, _⟩ => exact Fin.ext hr.symm
    | ⟨3, _⟩ => exact Fin.ext hl.symm
  rw [hj]
  refine (flushed10_at m c t h r l).trans ?_
  rw [View.read_apply]
  obtain ⟨h0, h1, h2, h3⟩ := index_10 t
  show val m c _ _ _ _ = val m c _ _ _ _
  congr 1
  · exact Fin.ext (by show _ = win0_10.index t 0 * 1 + 1 * 0; rw [h0]; simp)
  · exact Fin.ext (by show h.val = win0_10.index t 1 * 4 + 1 * h.val; rw [h1]; omega)
  · exact Fin.ext (by show 512 * (grid0.coords t 1).val + r.val = win0_10.index t 2 * 512 + 1 * r.val; rw [h2]; omega)
  · exact Fin.ext (by show l.val = win0_10.index t 3 * 64 + 1 * l.val; rw [h3]; omega)

theorem final10 : (dats m 0 c).arrAt 10 cfg0.N = result10 m c :=
  (dats m 0 c).arrAt_eq_of_cover 10 (result10 m c) (fun t _ => flushed10_eq m c t) fun (i : S16x4x4096x64.Idx) => by
    have h0 : (i 0 : Nat) < 16 := (i 0).isLt
    have h1 : (i 1 : Nat) < 4 := (i 1).isLt
    have h2 : (i 2 : Nat) < 4096 := (i 2).isLt
    have h3 : (i 3 : Nat) < 64 := (i 3).isLt
    have hN : grid0.N = 128 := N_0
    obtain ⟨p, hp⟩ : ∃ p : Fin grid0.N, p.val = (i 0 : Nat) * 8 + (i 2 : Nat) / 512 := ⟨⟨_, by omega⟩, rfl⟩
    refine ⟨p, flush0_10 _, ?_⟩
    show i ∈ ((View.whole main_v25_3).slice (win0_10.rect p)).set
    rw [View.set_slice_whole, Rect.mem_set_unit]
    intro a
    obtain ⟨e0, e1, e2, e3⟩ := index_10 p
    obtain ⟨c0, c1⟩ := coords_at p
    match a with
    | ⟨0, _⟩ => show win0_10.index p 0 * 1 ≤ (i 0 : Nat) ∧ (i 0 : Nat) < win0_10.index p 0 * 1 + 1
                rw [e0, c0, hp]; omega
    | ⟨1, _⟩ => show win0_10.index p 1 * 4 ≤ (i 1 : Nat) ∧ (i 1 : Nat) < win0_10.index p 1 * 4 + 4
                rw [e1]; omega
    | ⟨2, _⟩ => show win0_10.index p 2 * 512 ≤ (i 2 : Nat) ∧ (i 2 : Nat) < win0_10.index p 2 * 512 + 512
                rw [e2, c1, hp]; omega
    | ⟨3, _⟩ => show win0_10.index p 3 * 64 ≤ (i 3 : Nat) ∧ (i 3 : Nat) < win0_10.index p 3 * 64 + 64
                rw [e3]; omega

end Cert.Kernel3Ideal.Premix

end
-- ==== Proof.PremixRef.lean ====
/-
  The reference of the input projection at an index: the seven parts of the projection, the queries and the keys normed.
-/
module

public import proofs.«01_k».proof.Proof.PremixLayer
public import proofs.«01_k».proof.Proof.Gen.Reference3Ideal.Read
public import Idealize.ShloMosaic.Lib.KernelVsHost
public import Idealize.ShloMosaic.Lib.Tactic
public import Idealize.ShloMosaic.Lib.Pointwise

@[expose] public section

set_option maxRecDepth 16384

noncomputable section
namespace Cert.Reference3Ideal.Premix
open Cert.Layer Cert.Reference3Ideal Cert.Reference3Ideal.Gen Cert.Reference3Ideal.Read Idealize.ShloMosaic Idealize.ShloMosaic.TcCoe Idealize.SL.Sem

variable (x0 : FVec Ideal S16x4096x1024 .f32) (x1 : FVec Ideal S16x6144 .f32) (x2 : FVec Ideal S1024 .f32) (x3 : FVec Ideal S1024x3080 .f32) (x4 x5 : FVec Ideal S32 .f32)
variable (b : Fin 16) (t : Fin 4096)

/-- The normalised, scaled and shifted row. -/
theorem hidden_at (d : Fin 1024) : val_main_v25 (F := Ideal) x0 x1 x2 (ix3 b t d)
    = hidden (fun k => x0 (ix3 b t k)) (fun k => x2 (ix1 k)) (fun k => x1 (ix2 b k)) d := by
  have hi : ∀ k : Fin 1024, idx_main_v8 (idx_main_v9 (idx_main_v15 (ix3 b t d))) k = ix3 b t k := fun k => by
    funext a; match a with | ⟨0, _⟩ => rfl | ⟨1, _⟩ => rfl | ⟨2, _⟩ => rfl
  have hs : ∀ k : Fin 1024, val_main_v7 (F := Ideal) x0 (idx_main_v8 (idx_main_v9 (idx_main_v15 (ix3 b t d))) k) = x0 (ix3 b t k) * x0 (ix3 b t k) := fun k => by
    rw [hi k]; rfl
  rw [val_main_v25_apply, val_main_v23_apply, val_main_v19_apply, val_main_v16_apply, val_main_v15_apply, val_main_v14_apply, val_main_v13_apply, val_main_v11_apply, val_main_v9_apply, val_main_v8_apply,
    Finset.sum_congr rfl fun k _ => hs k]
  pointwise [val_main_v24, val_main_v22, val_main_v21, val_main_v20, val_main_v18, val_main_v17, val_main_v12, val_main_v10, val_main_v2, val_main_v1, val_main_v0, val_main_cst, val_main_cst_0, val_main_cst_1, val_main_cst_2]
  rfl

/-- A column of the projection. -/
def column (j : Fin 3080) : EReal :=
  projected (hidden (fun k => x0 (ix3 b t k)) (fun k => x2 (ix1 k)) (fun k => x1 (ix2 b k))) (fun k => x3 (ix2 k j))

theorem proj_at (j : Fin 3080) : val_main_v26 (F := Ideal) x0 x1 x2 x3 (ix3 b t j) = column x0 x1 x2 x3 b t j := by
  have hl : ∀ k : Fin 1024, lidx_main_v26 (ix3 b t j) k = ix3 b t k := fun k => by
    funext a; match a with | ⟨0, _⟩ => rfl | ⟨1, _⟩ => rfl | ⟨2, _⟩ => rfl
  have hr : ∀ k : Fin 1024, ridx_main_v26 (ix3 b t j) k = ix2 k j := fun k => by
    funext a; match a with | ⟨0, _⟩ => rfl | ⟨1, _⟩ => rfl
  rw [val_main_v26_apply]
  simp only [hl, hr, hidden_at]
  rfl

theorem hyena_at (d : Fin 768) : val_main_v27 (F := Ideal) x0 x1 x2 x3 (ix3 b t d) = column x0 x1 x2 x3 b t ⟨d.val, by omega⟩ := by
  rw [← proj_at, val_main_v27_apply]
  congr 1
  funext a; match a with | ⟨0, _⟩ => exact Fin.ext (by simp) | ⟨1, _⟩ => exact Fin.ext (by simp) | ⟨2, _⟩ => exact Fin.ext (by simp)

theorem retention_at (d : Fin 768) : val_main_v29 (F := Ideal) x0 x1 x2 x3 (ix3 b t d) = column x0 x1 x2 x3 b t ⟨1536 + d.val, by omega⟩ := by
  rw [← proj_at]
  unfold val_main_v29
  generalize val_main_v26 (F := Ideal) x0 x1 x2 x3 = y
  pointwise

theorem scan_at (d : Fin 768) : val_main_v73 (F := Ideal) x0 x1 x2 x3 (ix3 b t d) = column x0 x1 x2 x3 b t ⟨2304 + d.val, by omega⟩ := by
  rw [← proj_at]
  unfold val_main_v73 val_main_v30
  generalize val_main_v26 (F := Ideal) x0 x1 x2 x3 = y
  pointwise

/-- The queries', the keys' and the values' column of head `h`'s lane `l`. -/
abbrev lane (h : Fin 4) (l : Fin 64) : Fin 256 := ⟨64 * h.val + l.val, by omega⟩

theorem value_at (h : Fin 4) (l : Fin 64) : val_main_v72 (F := Ideal) x0 x1 x2 x3 (ix4 b h t l) = column x0 x1 x2 x3 b t ⟨1280 + (lane h l).val, by have := (lane h l).isLt; omega⟩ := by
  rw [← proj_at]
  unfold val_main_v72 val_main_v71 val_main_v70 val_main_v33 val_main_v28
  generalize val_main_v26 (F := Ideal) x0 x1 x2 x3 = y
  pointwise
  exact congrArg (fun j => y (ix3 b t j)) (Fin.ext (by show 768 + (512 + (h.val * 64 + l.val)) = 1280 + (64 * h.val + l.val); omega))

/-- The step: eight columns, then zeros. -/
theorem step_at (d : Fin 8) : val_main_v75 (F := Ideal) x0 x1 x2 x3 (ix3 b t ⟨d.val, by omega⟩) = column x0 x1 x2 x3 b t ⟨3072 + d.val, by omega⟩ := by
  have e : val_main_v75 (F := Ideal) x0 x1 x2 x3 (ix3 b t ⟨d.val, by omega⟩) = val_main_v74 (F := Ideal) x0 x1 x2 x3 (ix3 b t d) := by
    unfold val_main_v75
    refine pad_apply_of_inside _ _ _ _ _ _ _ _ _ fun a => ?_
    match a with
    | ⟨0, _⟩ => exact (show b.val = 0 + b.val * (0 + 1) by omega)
    | ⟨1, _⟩ => exact (show t.val = 0 + t.val * (0 + 1) by omega)
    | ⟨2, _⟩ => exact (show d.val = 0 + d.val * (0 + 1) by omega)
  rw [e, ← proj_at]
  unfold val_main_v74 val_main_v30
  generalize val_main_v26 (F := Ideal) x0 x1 x2 x3 = y
  pointwise
  exact congrArg (fun j => y (ix3 b t j)) (Fin.ext (by show 2304 + (768 + d.val) = 3072 + d.val; omega))

theorem step_rest (d : Fin 128) (hd : 8 ≤ d.val) : val_main_v75 (F := Ideal) x0 x1 x2 x3 (ix3 b t d) = (0 : EReal) := by
  unfold val_main_v75
  refine (pad_apply_of_not_inside _ _ _ _ _ _ _ _ (2 : Fin 3) ?_).trans ?_
  · intro h
    have h2 : (d.val - 0) / (0 + 1) < 8 := h.2.2
    omega
  · pointwise [val_main_call0_v0, val_main_c]
    show (((0#32 : BitVec 32).toInt : ℝ) : EReal) = 0
    simp

/-- A column of the queries and of the keys. -/
theorem query_column (h : Fin 4) (s : Fin 2) (e : Fin 32) :
    val_main_v34 (F := Ideal) x0 x1 x2 x3 (ix5 b t h s e) = column x0 x1 x2 x3 b t ⟨768 + (64 * h.val + 32 * s.val + e.val), by omega⟩ := by
  rw [← proj_at]
  unfold val_main_v34 val_main_v31 val_main_v28
  generalize val_main_v26 (F := Ideal) x0 x1 x2 x3 = y
  pointwise
  exact congrArg (fun j => y (ix3 b t j)) (Fin.ext (by show 768 + (h.val * 64 + s.val * 32 + e.val) = 768 + (64 * h.val + 32 * s.val + e.val); omega))

theorem key_column (h : Fin 4) (s : Fin 2) (e : Fin 32) :
    val_main_v35 (F := Ideal) x0 x1 x2 x3 (ix5 b t h s e) = column x0 x1 x2 x3 b t ⟨1024 + (64 * h.val + 32 * s.val + e.val), by omega⟩ := by
  rw [← proj_at]
  unfold val_main_v35 val_main_v32 val_main_v28
  generalize val_main_v26 (F := Ideal) x0 x1 x2 x3 = y
  pointwise
  exact congrArg (fun j => y (ix3 b t j)) (Fin.ext (by show 768 + (256 + (h.val * 64 + s.val * 32 + e.val)) = 1024 + (64 * h.val + 32 * s.val + e.val); omega))

/-- A normed column of the queries. -/
theorem query_at (h : Fin 4) (l : Fin 64) : val_main_v66 (F := Ideal) x0 x1 x2 x3 x4 (ix4 b h t l)
    = normed (fun c => column x0 x1 x2 x3 b t ⟨768 + c.val, by omega⟩) (lane h l) * x4 (ix1 (inGroup (lane h l))) * Ideal.ofBits .f32 0x3E3504F3#32 := by
  have hq : idx_main_v64 (idx_main_v65 (ix4 b h t l)) = ix5 b t h ⟨l.val / 32, by omega⟩ ⟨l.val % 32, by omega⟩ := by
    funext a
    match a with
    | ⟨0, _⟩ => exact Fin.ext (by simp; omega)
    | ⟨1, _⟩ => exact Fin.ext (by simp; omega)
    | ⟨2, _⟩ => exact Fin.ext (by simp; omega)
    | ⟨3, _⟩ => exact Fin.ext (by simp; omega)
    | ⟨4, _⟩ => exact Fin.ext (by simp; omega)
  have hs : ∀ k : Fin 32, val_main_v36 (F := Ideal) x0 x1 x2 x3 (idx_main_v37 (idx_main_v38 (idx_main_v44 (ix5 b t h ⟨l.val / 32, by omega⟩ ⟨l.val % 32, by omega⟩))) k)
      = column x0 x1 x2 x3 b t ⟨768 + (mate (lane h l) k).val, by omega⟩ * column x0 x1 x2 x3 b t ⟨768 + (mate (lane h l) k).val, by omega⟩ := fun k => by
    have hi : idx_main_v37 (idx_main_v38 (idx_main_v44 (ix5 b t h ⟨l.val / 32, by omega⟩ ⟨l.val % 32, by omega⟩))) k = ix5 b t h ⟨l.val / 32, by omega⟩ k := by
      funext a
      match a with
      | ⟨0, _⟩ => rfl
      | ⟨1, _⟩ => rfl
      | ⟨2, _⟩ => rfl
      | ⟨3, _⟩ => rfl
      | ⟨4, _⟩ => rfl
    rw [hi, val_main_v36_apply, query_column]
    have hm : (⟨768 + (64 * h.val + 32 * (l.val / 32) + k.val), by omega⟩ : Fin 3080) = ⟨768 + (mate (lane h l) k).val, by omega⟩ :=
      Fin.ext (by show 768 + (64 * h.val + 32 * (l.val / 32) + k.val) = 768 + (32 * ((64 * h.val + l.val) / 32) + k.val); omega)
    rw [hm]
    rfl
  have hc : val_main_v34 (F := Ideal) x0 x1 x2 x3 (ix5 b t h ⟨l.val / 32, by omega⟩ ⟨l.val % 32, by omega⟩) = column x0 x1 x2 x3 b t ⟨768 + (lane h l).val, by have := (lane h l).isLt; omega⟩ := by
    rw [query_column]
    exact congrArg _ (Fin.ext (by show 768 + (64 * h.val + 32 * (l.val / 32) + l.val % 32) = 768 + (64 * h.val + l.val); omega))
  have hw : val_main_v47 (F := Ideal) x4 (ix5 b t h ⟨l.val / 32, by omega⟩ ⟨l.val % 32, by omega⟩) = x4 (ix1 (inGroup (lane h l))) := by
    have : inGroup (lane h l) = ⟨l.val % 32, by omega⟩ := Fin.ext (by show (64 * h.val + l.val) % 32 = l.val % 32; omega)
    rw [this]
    pointwise [val_main_v47, val_main_v46]
  rw [val_main_v66_apply, val_main_v65_apply, val_main_v64_apply, hq, val_main_v50_apply, val_main_v48_apply, val_main_v45_apply, val_main_v44_apply, val_main_v43_apply, val_main_v42_apply, val_main_v40_apply,
    val_main_v38_apply, val_main_v37_apply, Finset.sum_congr rfl fun k _ => hs k, hc, hw]
  pointwise [val_main_v49, val_main_cst_6, val_main_v41, val_main_cst_5, val_main_v39, val_main_cst_4, val_main_cst_3]
  rfl

/-- A normed column of the keys. -/
theorem key_at (h : Fin 4) (l : Fin 64) : val_main_v69 (F := Ideal) x0 x1 x2 x3 x5 (ix4 b h t l)
    = normed (fun c => column x0 x1 x2 x3 b t ⟨1024 + c.val, by omega⟩) (lane h l) * x5 (ix1 (inGroup (lane h l))) := by
  have hq : idx_main_v67 (idx_main_v68 (ix4 b h t l)) = ix5 b t h ⟨l.val / 32, by omega⟩ ⟨l.val % 32, by omega⟩ := by
    funext a
    match a with
    | ⟨0, _⟩ => exact Fin.ext (by simp; omega)
    | ⟨1, _⟩ => exact Fin.ext (by simp; omega)
    | ⟨2, _⟩ => exact Fin.ext (by simp; omega)
    | ⟨3, _⟩ => exact Fin.ext (by simp; omega)
    | ⟨4, _⟩ => exact Fin.ext (by simp; omega)
  have hs : ∀ k : Fin 32, val_main_v51 (F := Ideal) x0 x1 x2 x3 (idx_main_v52 (idx_main_v53 (idx_main_v59 (ix5 b t h ⟨l.val / 32, by omega⟩ ⟨l.val % 32, by omega⟩))) k)
      = column x0 x1 x2 x3 b t ⟨1024 + (mate (lane h l) k).val, by omega⟩ * column x0 x1 x2 x3 b t ⟨1024 + (mate (lane h l) k).val, by omega⟩ := fun k => by
    have hi : idx_main_v52 (idx_main_v53 (idx_main_v59 (ix5 b t h ⟨l.val / 32, by omega⟩ ⟨l.val % 32, by omega⟩))) k = ix5 b t h ⟨l.val / 32, by omega⟩ k := by
      funext a
      match a with
      | ⟨0, _⟩ => rfl
      | ⟨1, _⟩ => rfl
      | ⟨2, _⟩ => rfl
      | ⟨3, _⟩ => rfl
      | ⟨4, _⟩ => rfl
    rw [hi, val_main_v51_apply, key_column]
    have hm : (⟨1024 + (64 * h.val + 32 * (l.val / 32) + k.val), by omega⟩ : Fin 3080) = ⟨1024 + (mate (lane h l) k).val, by omega⟩ :=
      Fin.ext (by show 1024 + (64 * h.val + 32 * (l.val / 32) + k.val) = 1024 + (32 * ((64 * h.val + l.val) / 32) + k.val); omega)
    rw [hm]
    rfl
  have hc : val_main_v35 (F := Ideal) x0 x1 x2 x3 (ix5 b t h ⟨l.val / 32, by omega⟩ ⟨l.val % 32, by omega⟩) = column x0 x1 x2 x3 b t ⟨1024 + (lane h l).val, by have := (lane h l).isLt; omega⟩ := by
    rw [key_column]
    exact congrArg _ (Fin.ext (by show 1024 + (64 * h.val + 32 * (l.val / 32) + l.val % 32) = 1024 + (64 * h.val + l.val); omega))
  have hw : val_main_v62 (F := Ideal) x5 (ix5 b t h ⟨l.val / 32, by omega⟩ ⟨l.val % 32, by omega⟩) = x5 (ix1 (inGroup (lane h l))) := by
    have : inGroup (lane h l) = ⟨l.val % 32, by omega⟩ := Fin.ext (by show (64 * h.val + l.val) % 32 = l.val % 32; omega)
    rw [this]
    pointwise [val_main_v62, val_main_v61]
  rw [val_main_v69_apply, val_main_v68_apply, val_main_v67_apply, hq, val_main_v63_apply, val_main_v60_apply, val_main_v59_apply, val_main_v58_apply, val_main_v57_apply, val_main_v55_apply,
    val_main_v53_apply, val_main_v52_apply, Finset.sum_congr rfl fun k _ => hs k, hc, hw]
  pointwise [val_main_v56, val_main_cst_9, val_main_v54, val_main_cst_8, val_main_cst_7]
  rfl

end Cert.Reference3Ideal.Premix

end
-- ==== Proof.Finite3.lean ====
module

public import proofs.«01_k».proof.Proof.Gen.Pre_finite3
public import proofs.«01_k».proof.Proof.Finite

@[expose] public section

set_option maxRecDepth 16384

/-! What the input projection's precondition says of an element: it is a real number. -/

noncomputable section
namespace Cert.Pre_finite3.Premix
open Cert.Pre_finite3 Cert.Pre_finite3.Facts Idealize.ShloMosaic

variable [hPre : Facts]

/-- One test of the conjunction, of the layer's input. -/
theorem all_tokens (x : FVec Ideal S16x4096x1024 .f32) (j : S_.Idx)
    (h : Host.reduce IntOp.andi (cmpf .olt (Host.absf x) (broadcastInDim S16x4096x1024 ![] bcast_S_S16x4096x1024 (constant (F := Ideal) S_ .f32 0x7F800000#32)))
      (constantI S_ 1 1#1) reducesTo_S16x4096x1024_S_d0_1_2 h_S_ j = 1#1) (i : S16x4096x1024.Idx) : ∃ r : ℝ, x i = r := by
  haveI : Subsingleton S_.Idx := ⟨fun a b => funext fun i => i.elim0⟩
  refine Cert.Pre_finite.Attn.real_of_below (x i) ?_
  rw [← Cert.Pre_finite.Attn.top_word]
  exact Host.reduce_andi_all _ _ _ _ j h i

/-- One test of the conjunction, of the modulation. -/
theorem all_ada (x : FVec Ideal S16x6144 .f32) (j : S_.Idx)
    (h : Host.reduce IntOp.andi (cmpf .olt (Host.absf x) (broadcastInDim S16x6144 ![] bcast_S_S16x6144 (constant (F := Ideal) S_ .f32 0x7F800000#32)))
      (constantI S_ 1 1#1) reducesTo_S16x6144_S_d0_1 h_S_ j = 1#1) (i : S16x6144.Idx) : ∃ r : ℝ, x i = r := by
  haveI : Subsingleton S_.Idx := ⟨fun a b => funext fun i => i.elim0⟩
  refine Cert.Pre_finite.Attn.real_of_below (x i) ?_
  rw [← Cert.Pre_finite.Attn.top_word]
  exact Host.reduce_andi_all _ _ _ _ j h i

/-- One test of the conjunction, of the norm's weights. -/
theorem all_norm (x : FVec Ideal S1024 .f32) (j : S_.Idx)
    (h : Host.reduce IntOp.andi (cmpf .olt (Host.absf x) (broadcastInDim S1024 ![] bcast_S_S1024 (constant (F := Ideal) S_ .f32 0x7F800000#32)))
      (constantI S_ 1 1#1) reducesTo_S1024_S_d0 h_S_ j = 1#1) (i : S1024.Idx) : ∃ r : ℝ, x i = r := by
  haveI : Subsingleton S_.Idx := ⟨fun a b => funext fun i => i.elim0⟩
  refine Cert.Pre_finite.Attn.real_of_below (x i) ?_
  rw [← Cert.Pre_finite.Attn.top_word]
  exact Host.reduce_andi_all _ _ _ _ j h i

/-- One test of the conjunction, of the projection. -/
theorem all_weights (x : FVec Ideal S1024x3080 .f32) (j : S_.Idx)
    (h : Host.reduce IntOp.andi (cmpf .olt (Host.absf x) (broadcastInDim S1024x3080 ![] bcast_S_S1024x3080 (constant (F := Ideal) S_ .f32 0x7F800000#32)))
      (constantI S_ 1 1#1) reducesTo_S1024x3080_S_d0_1 h_S_ j = 1#1) (i : S1024x3080.Idx) : ∃ r : ℝ, x i = r := by
  haveI : Subsingleton S_.Idx := ⟨fun a b => funext fun i => i.elim0⟩
  refine Cert.Pre_finite.Attn.real_of_below (x i) ?_
  rw [← Cert.Pre_finite.Attn.top_word]
  exact Host.reduce_andi_all _ _ _ _ j h i

theorem real_of_finite (x0 : FVec Ideal S16x4096x1024 .f32) (x1 : FVec Ideal S16x6144 .f32) (x2 : FVec Ideal S1024 .f32) (x3 : FVec Ideal S1024x3080 .f32) (x4 x5 : FVec Ideal S32 .f32)
    (h : fn (F := Ideal) x0 x1 x2 x3 x4 x5 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h (fun i => i.elim0)
  obtain ⟨h2, g3⟩ := IntOp.andi_eq_one.1 h0
  obtain ⟨h1, g2⟩ := IntOp.andi_eq_one.1 h2
  obtain ⟨g0, g1⟩ := IntOp.andi_eq_one.1 h1
  exact ⟨all_tokens x0 _ g0, all_ada x1 _ g1, all_norm x2 _ g2, all_weights x3 _ g3⟩

end Cert.Pre_finite3.Premix

end
-- ==== Proof.PremixEquation.lean ====
module

public import proofs.«01_k».proof.Defs
public import proofs.«01_k».proof.Proof.PremixArray
public import proofs.«01_k».proof.Proof.PremixRef
public import proofs.«01_k».proof.Proof.Finite3

@[expose] public section

set_option maxRecDepth 16384

/-! The seven results of the input projection are the reference's; the columns are real numbers on real inputs. -/

noncomputable section
namespace Cert.Premix
open Idealize.ShloMosaic Idealize.ShloMosaic.TcCoe Idealize.SL.Sem Cert.Kernel3Ideal Cert.Kernel3Ideal.Premix Cert.Layer

variable (m : (ℓ : Loc nD τ sig) → Buf (Elt Ideal) ℓ) (c : Dev nD)

section
attribute [local instance] Cert.Pre_finite3.Gen.facts

theorem column_real (h : Cert.Pre_Kernel3Ideal_finite3 m) (b : Fin 16) (t : Fin 4096) (j : Fin 3080) : ∃ r : ℝ, column m c b t j = r := by
  obtain ⟨f0, f1, f2, f3⟩ := Cert.Pre_finite3.Premix.real_of_finite _ _ _ _ _ _ (h c)
  unfold Cert.Kernel3Ideal.Premix.column
  exact projected_real _ _ (fun d => hidden_real _ _ _ (fun k => f0 _) (fun k => f2 _) (fun k => f1 _) d) fun k => f3 _

end

theorem result7_eq : result7 m c = Cert.Reference3Ideal.Read.val_main_v27 (F := Ideal) (m ((c : Thread nD τ).loc main_arg0)) (m ((c : Thread nD τ).loc main_arg1)) (m ((c : Thread nD τ).loc main_arg2)) (m ((c : Thread nD τ).loc main_arg3)) := by
  funext (j : S16x4096x768.Idx)
  rw [eq_ix3 j]
  exact (Cert.Reference3Ideal.Premix.hyena_at (m ((c : Thread nD τ).loc main_arg0)) (m ((c : Thread nD τ).loc main_arg1)) (m ((c : Thread nD τ).loc main_arg2)) (m ((c : Thread nD τ).loc main_arg3)) (j 0) (j 1) (j 2)).symm

theorem result11_eq : result11 m c = Cert.Reference3Ideal.Read.val_main_v29 (F := Ideal) (m ((c : Thread nD τ).loc main_arg0)) (m ((c : Thread nD τ).loc main_arg1)) (m ((c : Thread nD τ).loc main_arg2)) (m ((c : Thread nD τ).loc main_arg3)) := by
  funext (j : S16x4096x768.Idx)
  rw [eq_ix3 j]
  exact (Cert.Reference3Ideal.Premix.retention_at (m ((c : Thread nD τ).loc main_arg0)) (m ((c : Thread nD τ).loc main_arg1)) (m ((c : Thread nD τ).loc main_arg2)) (m ((c : Thread nD τ).loc main_arg3)) (j 0) (j 1) (j 2)).symm

theorem result12_eq : result12 m c = Cert.Reference3Ideal.Read.val_main_v73 (F := Ideal) (m ((c : Thread nD τ).loc main_arg0)) (m ((c : Thread nD τ).loc main_arg1)) (m ((c : Thread nD τ).loc main_arg2)) (m ((c : Thread nD τ).loc main_arg3)) := by
  funext (j : S16x4096x768.Idx)
  rw [eq_ix3 j]
  exact (Cert.Reference3Ideal.Premix.scan_at (m ((c : Thread nD τ).loc main_arg0)) (m ((c : Thread nD τ).loc main_arg1)) (m ((c : Thread nD τ).loc main_arg2)) (m ((c : Thread nD τ).loc main_arg3)) (j 0) (j 1) (j 2)).symm

theorem result13_eq : result13 m c = Cert.Reference3Ideal.Read.val_main_v75 (F := Ideal) (m ((c : Thread nD τ).loc main_arg0)) (m ((c : Thread nD τ).loc main_arg1)) (m ((c : Thread nD τ).loc main_arg2)) (m ((c : Thread nD τ).loc main_arg3)) := by
  funext (j : S16x4096x128.Idx)
  rw [eq_ix3 j]
  show step m c (j 0) (j 1) (j 2) = _
  unfold step
  split
  case isTrue h => exact (Cert.Reference3Ideal.Premix.step_at (m ((c : Thread nD τ).loc main_arg0)) (m ((c : Thread nD τ).loc main_arg1)) (m ((c : Thread nD τ).loc main_arg2)) (m ((c : Thread nD τ).loc main_arg3)) (j 0) (j 1) ⟨(j 2).val, h⟩).symm
  case isFalse h => exact (Cert.Reference3Ideal.Premix.step_rest (m ((c : Thread nD τ).loc main_arg0)) (m ((c : Thread nD τ).loc main_arg1)) (m ((c : Thread nD τ).loc main_arg2)) (m ((c : Thread nD τ).loc main_arg3)) (j 0) (j 1) (j 2) (by omega)).symm

theorem result10_eq : result10 m c = Cert.Reference3Ideal.Read.val_main_v72 (F := Ideal) (m ((c : Thread nD τ).loc main_arg0)) (m ((c : Thread nD τ).loc main_arg1)) (m ((c : Thread nD τ).loc main_arg2)) (m ((c : Thread nD τ).loc main_arg3)) := by
  funext (j : S16x4x4096x64.Idx)
  rw [eq_ix4 j]
  exact (Cert.Reference3Ideal.Premix.value_at (m ((c : Thread nD τ).loc main_arg0)) (m ((c : Thread nD τ).loc main_arg1)) (m ((c : Thread nD τ).loc main_arg2)) (m ((c : Thread nD τ).loc main_arg3)) (j 0) (j 2) (j 1) (j 3)).symm

theorem result8_eq : result8 m c = Cert.Reference3Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext (j : S16x4x4096x64.Idx)
  rw [eq_ix4 j]
  exact (Cert.Reference3Ideal.Premix.query_at (m ((c : Thread nD τ).loc main_arg0)) (m ((c : Thread nD τ).loc main_arg1)) (m ((c : Thread nD τ).loc main_arg2)) (m ((c : Thread nD τ).loc main_arg3)) (m ((c : Thread nD τ).loc main_arg4)) (j 0) (j 2) (j 1) (j 3)).symm

theorem result9_eq : result9 m c = Cert.Reference3Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext (j : S16x4x4096x64.Idx)
  rw [eq_ix4 j]
  exact (Cert.Reference3Ideal.Premix.key_at (m ((c : Thread nD τ).loc main_arg0)) (m ((c : Thread nD τ).loc main_arg1)) (m ((c : Thread nD τ).loc main_arg2)) (m ((c : Thread nD τ).loc main_arg3)) (m ((c : Thread nD τ).loc main_arg5)) (j 0) (j 2) (j 1) (j 3)).symm

end Cert.Premix

end
-- ==== Proof.Table.lean ====
/-
  The adaLN table: what the reference and the kernel's result array hold at a layer, a row and a column.
-/
module

public import proofs.«01_k».proof.Proof.Gen.Kernel4Ideal.Value
public import proofs.«01_k».proof.Proof.Gen.Reference4Ideal.Read
public import Idealize.ShloMosaic.Lib.KernelVsHost
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

namespace Cert.Layer
open Idealize.ShloMosaic

/-- One entry of the table: the row's values, each times its logistic, under a column of weights, and the column's bias. -/
def modulation (s w : Fin 1024 → EReal) (b : EReal) : EReal := ∑ k, s k * Ideal.logistic (s k) * w k + b

end Cert.Layer

namespace Cert.Reference4Ideal.Table
open Cert.Layer Cert.Reference4Ideal Cert.Reference4Ideal.Gen Cert.Reference4Ideal.Read Idealize.ShloMosaic Idealize.ShloMosaic.TcCoe Idealize.SL.Sem

variable (x0 : FVec Ideal S16x1024 .f32) (x1 : FVec Ideal S8x1024 .f32) (x2 : FVec Ideal S4x1024x6144 .f32) (x3 : FVec Ideal S4x6144 .f32)

theorem silu_at (i : S24x1024.Idx) : val_main_v1 (F := Ideal) x0 x1 i = val_main_v0 (F := Ideal) x0 x1 i * Ideal.logistic (val_main_v0 (F := Ideal) x0 x1 i) := by
  rw [val_main_v1_apply, val_main_call0_v5_apply, val_main_call0_v3_apply, val_main_call0_v1_apply, val_main_call0_v0_apply]
  generalize val_main_v0 (F := Ideal) x0 x1 = y
  pointwise [val_main_call0_v4, val_main_call0_v2, val_main_call0_cst, val_main_call0_cst_0]
  rfl

/-- An entry of the reference's table. -/
theorem out_at (l : Fin 4) (r : Fin 24) (j : Fin 6144) : val_main_v6 (F := Ideal) x0 x1 x2 x3 (ix3 l r j)
    = modulation (fun k => val_main_v0 (F := Ideal) x0 x1 (ix2 r k)) (fun k => x2 (ix3 l k j)) (x3 (ix2 l j)) := by
  have hl : ∀ k : Fin 1024, lidx_main_v2 (idx_main_v3 (ix3 l r j)) k = ix3 l k j := fun k => by
    funext a; match a with | ⟨0, _⟩ => rfl | ⟨1, _⟩ => rfl | ⟨2, _⟩ => rfl
  have hr : ∀ k : Fin 1024, ridx_main_v2 (idx_main_v3 (ix3 l r j)) k = ix2 r k := fun k => by
    funext a; match a with | ⟨0, _⟩ => rfl | ⟨1, _⟩ => rfl
  have hb : idx_main_v4 (idx_main_v5 (ix3 l r j)) = ix2 l j := by
    funext a; match a with | ⟨0, _⟩ => rfl | ⟨1, _⟩ => rfl
  rw [val_main_v6_apply, val_main_v3_apply, val_main_v2_apply, val_main_v5_apply, val_main_v4_apply, hb]
  simp only [hl, hr, silu_at]
  unfold modulation
  refine congrArg (· + x3 (ix2 l j)) (Finset.sum_congr rfl fun k _ => ?_)
  exact mul_comm _ _

end Cert.Reference4Ideal.Table

namespace Cert.Kernel4Ideal.Table
open Cert.Layer Cert.Kernel4Ideal Cert.Kernel4Ideal.Gen Idealize.ShloMosaic Idealize.ShloMosaic.TcCoe Idealize.SL.Sem
open Idealize.ShloMosaic.Pipeline (Dat)

/-- An entry of a block. -/
theorem pay_at (s : Vec Ideal S24x1024 .f32) (w : Vec Ideal S1x1024x1536 .f32) (b : Vec Ideal S1x1x1536 .f32) (r : Fin 24) (j : Fin 1536) :
    k0_pay1 s w b (ix3 0 r j) = modulation (fun k => s (ix2 r k)) (fun k => w (ix3 0 k j)) (b (ix3 0 0 j)) := by
  pointwise [k0_pay1]
  rfl

theorem hz3 : (![0, 0, 0] : Fin 3 → Nat) = fun _ => 0 := funext fun a => by fin_cases a <;> rfl
theorem hz2 : (![0, 0] : Fin 2 → Nat) = fun _ => 0 := funext fun a => by fin_cases a <;> rfl

variable (m : (ℓ : Loc nD τ sig) → Buf (Elt Ideal) ℓ) (c : Dev nD)

theorem coords_at : ∀ t : Fin grid0.N, (grid0.coords t 0).val = t.val / 4 ∧ (grid0.coords t 1).val = t.val % 4 := by
  decide +kernel

theorem index_rows : ∀ t : Fin grid0.N, win0_0.index t 0 = 0 ∧ win0_0.index t 1 = 0 := by
  decide +kernel

theorem index_w : ∀ t : Fin grid0.N, win0_1.index t 0 = (grid0.coords t 0).val ∧ win0_1.index t 1 = 0 ∧ win0_1.index t 2 = (grid0.coords t 1).val := by
  decide +kernel

theorem index_b : ∀ t : Fin grid0.N, win0_2.index t 0 = (grid0.coords t 0).val ∧ win0_2.index t 1 = 0 ∧ win0_2.index t 2 = (grid0.coords t 1).val := by
  decide +kernel

theorem index_o : ∀ t : Fin grid0.N, win0_3.index t 0 = (grid0.coords t 0).val ∧ win0_3.index t 1 = 0 ∧ win0_3.index t 2 = (grid0.coords t 1).val := by
  decide +kernel

/-- A block's place: its layer and a column's place in the table. -/
abbrev layer (t : Fin grid0.N) : Fin 4 := ⟨(grid0.coords t 0).val, (grid0.coords t 0).isLt⟩
abbrev place (t : Fin grid0.N) (j : Fin 1536) : Fin 6144 :=
  ⟨1536 * (grid0.coords t 1).val + j.val, by have : (grid0.coords t 1).val < 4 := (grid0.coords t 1).isLt; omega⟩

/-- The rows of both batches, as the reference joins them. -/
abbrev rows : FVec Ideal S24x1024 .f32 :=
  Cert.Reference4Ideal.Read.val_main_v0 (F := Ideal) (m ((c : Thread nD τ).loc main_arg0)) (m ((c : Thread nD τ).loc main_arg1))

theorem V_v0 : (V m c main_v0 : Vec Ideal S24x1024 .f32) = rows m c := by
  unfold_abbrev_sides
  after_results
  rfl

theorem V_v1 : (V m c main_v1 : Vec Ideal S4x1x6144 .f32) = shapeCast S4x1x6144 (m ((c : Thread nD τ).loc main_arg3)) shapeCasts_S4x6144_S4x1x6144 := by
  unfold_abbrev_sides
  after_results
  rfl

theorem cast_v1 (y : FVec Ideal S4x6144 .f32) (l : Fin 4) (x : Fin 6144) : shapeCast S4x1x6144 y shapeCasts_S4x6144_S4x1x6144 (ix3 l 0 x) = y (ix2 l x) := by
  pointwise

theorem block_rows (t : Fin grid0.N) (r : Fin 24) (k : Fin 1024) : (iblk m c 0 t : Vec Ideal S24x1024 .f32) (ix2 r k) = rows m c (ix2 r k) := by
  refine Eq.trans ?_ (congrFun (V_v0 m c) (ix2 r k))
  unfold iblk
  rw [View.read_apply]
  show V m c main_v0 _ = V m c main_v0 _
  congr 1
  funext a
  obtain ⟨h0, h1⟩ := index_rows t
  match a with
  | ⟨0, _⟩ => exact Fin.ext (by show win0_0.index t 0 * 24 + 1 * r.val = r.val; rw [h0]; omega)
  | ⟨1, _⟩ => exact Fin.ext (by show win0_0.index t 1 * 1024 + 1 * k.val = k.val; rw [h1]; omega)

theorem block_w (t : Fin grid0.N) (k : Fin 1024) (j : Fin 1536) :
    (iblk m c 1 t : Vec Ideal S1x1024x1536 .f32) (ix3 0 k j) = m ((c : Thread nD τ).loc main_arg2) (ix3 (layer t) k (place t j)) := by
  unfold iblk
  rw [View.read_apply]
  show V m c main_arg2 _ = _
  rw [V_main_arg2]
  congr 1
  funext a
  obtain ⟨h0, h1, h2⟩ := index_w t
  match a with
  | ⟨0, _⟩ => exact Fin.ext (by show win0_1.index t 0 * 1 + 1 * 0 = _; rw [h0]; simp)
  | ⟨1, _⟩ => exact Fin.ext (by show win0_1.index t 1 * 1024 + 1 * k.val = k.val; rw [h1]; omega)
  | ⟨2, _⟩ => exact Fin.ext (by show win0_1.index t 2 * 1536 + 1 * j.val = 1536 * (grid0.coords t 1).val + j.val; rw [h2]; omega)

theorem block_b (t : Fin grid0.N) (j : Fin 1536) :
    (iblk m c 2 t : Vec Ideal S1x1x1536 .f32) (ix3 0 0 j) = m ((c : Thread nD τ).loc main_arg3) (ix2 (layer t) (place t j)) := by
  refine Eq.trans ?_ ((congrFun (V_v1 m c) (ix3 (layer t) 0 (place t j))).trans (cast_v1 _ (layer t) (place t j)))
  unfold iblk
  rw [View.read_apply]
  show V m c main_v1 _ = V m c main_v1 _
  congr 1
  funext a
  obtain ⟨h0, h1, h2⟩ := index_b t
  match a with
  | ⟨0, _⟩ => exact Fin.ext (by show win0_2.index t 0 * 1 + 1 * 0 = _; rw [h0]; simp)
  | ⟨1, _⟩ => exact Fin.ext (by show win0_2.index t 1 * 1 + 1 * 0 = 0; rw [h1])
  | ⟨2, _⟩ => exact Fin.ext (by show win0_2.index t 2 * 1536 + 1 * j.val = 1536 * (grid0.coords t 1).val + j.val; rw [h2]; omega)

/-- The table's entry. -/
def entry (l : Fin 4) (r : Fin 24) (j : Fin 6144) : EReal :=
  modulation (fun k => rows m c (ix2 r k)) (fun k => m ((c : Thread nD τ).loc main_arg2) (ix3 l k j)) (m ((c : Thread nD τ).loc main_arg3) (ix2 l j))

def result : Buf (Elt Ideal) ((c : Thread nD τ).loc main_v2) := fun (j : S4x24x6144.Idx) => entry m c (j 0) (j 1) (j 2)

theorem flushed_at (t : Fin cfg0.N) (r : Fin 24) (j : Fin 1536) :
    ((dats m 0 c).flushed 3 t : Vec Ideal S1x24x1536 .f32) (ix3 0 r j) = entry m c (layer t) r (place t j) := by
  rw [Value.flushed3]
  unfold out0_3
  simp only [View.ld_unit_zero (S := S24x1024) hz2, View.ld_unit_zero (S := S1x1024x1536) hz3, View.ld_unit_zero (S := S1x1x1536) hz3]
  rw [View.canon_unit_zero hz3]
  refine (pay_at (iblk m c 0 t) (iblk m c 1 t) (iblk m c 2 t) r j).trans ?_
  simp only [block_rows, block_w, block_b]
  rfl

theorem flushed_eq (t : Fin cfg0.N) : (dats m 0 c).flushed 3 t = ((cfg0.win 3).blk t).view.read (Elt Ideal) (result m c) := by
  funext j
  obtain ⟨r, hr⟩ : ∃ r : Fin 24, r.val = (j 1).val := ⟨⟨(j 1).val, (j 1).isLt⟩, rfl⟩
  obtain ⟨d, hd⟩ : ∃ d : Fin 1536, d.val = (j 2).val := ⟨⟨(j 2).val, (j 2).isLt⟩, rfl⟩
  have hj : (j : S1x24x1536.Idx) = ix3 0 r d := by
    funext a
    match a with
    | ⟨0, _⟩ => exact Fin.ext (by have : (j 0).val < 1 := (j 0).isLt; show (j 0).val = 0; omega)
    | ⟨1, _⟩ => exact Fin.ext hr.symm
    | ⟨2, _⟩ => exact Fin.ext hd.symm
  rw [hj]
  refine (flushed_at m c t r d).trans ?_
  rw [View.read_apply]
  obtain ⟨h0, h1, h2⟩ := index_o t
  show entry m c _ _ _ = entry m c _ _ _
  congr 1
  · exact Fin.ext (by show _ = win0_3.index t 0 * 1 + 1 * 0; rw [h0]; simp)
  · exact Fin.ext (by show r.val = win0_3.index t 1 * 24 + 1 * r.val; rw [h1]; omega)
  · exact Fin.ext (by show 1536 * (grid0.coords t 1).val + d.val = win0_3.index t 2 * 1536 + 1 * d.val; rw [h2]; omega)

/-- The result array after the run. -/
theorem final : (dats m 0 c).arrAt 3 cfg0.N = result m c :=
  (dats m 0 c).arrAt_eq_of_cover 3 (result m c) (fun t _ => flushed_eq m c t) fun (i : S4x24x6144.Idx) => by
    have h0 : (i 0 : Nat) < 4 := (i 0).isLt
    have h1 : (i 1 : Nat) < 24 := (i 1).isLt
    have h2 : (i 2 : Nat) < 6144 := (i 2).isLt
    have hN : grid0.N = 16 := N_0
    obtain ⟨p, hp⟩ : ∃ p : Fin grid0.N, p.val = (i 0 : Nat) * 4 + (i 2 : Nat) / 1536 := ⟨⟨_, by omega⟩, rfl⟩
    refine ⟨p, flush0_3 _, ?_⟩
    show i ∈ ((View.whole main_v2).slice (win0_3.rect p)).set
    rw [View.set_slice_whole, Rect.mem_set_unit]
    intro a
    obtain ⟨e0, e1, e2⟩ := index_o p
    obtain ⟨c0, c1⟩ := coords_at p
    match a with
    | ⟨0, _⟩ => show win0_3.index p 0 * 1 ≤ (i 0 : Nat) ∧ (i 0 : Nat) < win0_3.index p 0 * 1 + 1
                rw [e0, c0, hp]; omega
    | ⟨1, _⟩ => show win0_3.index p 1 * 24 ≤ (i 1 : Nat) ∧ (i 1 : Nat) < win0_3.index p 1 * 24 + 24
                rw [e1]; omega
    | ⟨2, _⟩ => show win0_3.index p 2 * 1536 ≤ (i 2 : Nat) ∧ (i 2 : Nat) < win0_3.index p 2 * 1536 + 1536
                rw [e2, c1, hp]; omega

end Cert.Kernel4Ideal.Table

namespace Cert.Table
open Idealize.ShloMosaic Idealize.ShloMosaic.TcCoe Idealize.SL.Sem Cert.Kernel4Ideal Cert.Kernel4Ideal.Table

/-- The kernel's table is the reference's. -/
theorem result_eq (m : (ℓ : Loc nD τ sig) → Buf (Elt Ideal) ℓ) (c : Dev nD) :
    result m c = Cert.Reference4Ideal.Read.val_main_v6 (F := Ideal) (m ((c : Thread nD τ).loc main_arg0)) (m ((c : Thread nD τ).loc main_arg1))
      (m ((c : Thread nD τ).loc main_arg2)) (m ((c : Thread nD τ).loc main_arg3)) := by
  funext (j : S4x24x6144.Idx)
  rw [eq_ix3 j]
  exact (Cert.Reference4Ideal.Table.out_at _ _ _ _ (j 0) (j 1) (j 2)).symm

end Cert.Table

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Equation
public import proofs.«01_k».proof.Proof.MergeEquation
public import proofs.«01_k».proof.Proof.PremixEquation
public import proofs.«01_k».proof.Proof.Table
public import Idealize.ShloMosaic.Lib.Quiescent
public import Idealize.ShloMosaic.Adequacy
public import Idealize.ShloMosaic.Init

@[expose] public section

noncomputable section

namespace Cert.Proof

open Idealize.ShloMosaic Idealize.SL.Sem Cert.Kernel

section
attribute [local instance] Cert.KernelIdeal.Gen.facts Cert.ReferenceIdeal.Gen.facts Cert.Pre_finite.Gen.facts

theorem frame_reference : Cert.quiescent_ReferenceIdeal := by
  intro m g _
  refine (θ_run Cert.ReferenceIdeal.defs _ _).mono (fun r h => ⟨fun c => (h c).2, ?_⟩) (Cert.ReferenceIdeal.Value.run (F := Ideal) m g)
  exact sem_eq_zero_of_no_sems rfl r.2

theorem equal : Cert.algebraic_KernelIdeal_ReferenceIdeal_pre_finite := by
  intro m g m' g' hp he
  refine ⟨fun c => Cert.KernelIdeal.Attn.result m c, ?_, ?_⟩
  · refine (θ_run Cert.KernelIdeal.defs _ _).mono (fun r h c => ?_) (Cert.KernelIdeal.Value.run_blocks (F := Ideal) m g)
    obtain ⟨h0, hk⟩ := h c
    exact ⟨h0.trans (Cert.KernelIdeal.Attn.final m c), hk⟩
  · refine (θ_run Cert.ReferenceIdeal.defs _ _).mono (fun r h c => ?_) (Cert.ReferenceIdeal.Value.run (F := Ideal) m' g')
    obtain ⟨h0, hk⟩ := h c
    obtain ⟨e0, e1, e2, e3, e4, e5, e6, e7⟩ := he c
    refine ⟨h0.trans ?_, hk⟩
    refine Eq.trans ?_ (Cert.Attn.result_eq m hp c).symm
    rw [Cert.ReferenceIdeal.Read.val_main_v77_eq, e0, e1, e2, e3, e4, e5, e6, e7]

end

section
attribute [local instance] Cert.Kernel2Ideal.Gen.facts Cert.Reference2Ideal.Gen.facts

theorem frame_reference2 : Cert.quiescent_Reference2Ideal := by
  intro m g _
  refine (θ_run Cert.Reference2Ideal.defs _ _).mono (fun r h => ⟨fun c => (h c).2, ?_⟩) (Cert.Reference2Ideal.Value.run (F := Ideal) m g)
  exact sem_eq_zero_of_no_sems rfl r.2

theorem equal2 : Cert.algebraic_Kernel2Ideal_Reference2Ideal := by
  intro m g m' g' _ he
  refine ⟨fun c => Cert.Kernel2Ideal.Merge.result m c, ?_, ?_⟩
  · refine (θ_run Cert.Kernel2Ideal.defs _ _).mono (fun r h c => ?_) (Cert.Kernel2Ideal.Value.run_blocks (F := Ideal) m g)
    obtain ⟨h0, hk⟩ := h c
    exact ⟨h0.trans (Cert.Kernel2Ideal.Merge.final m c), hk⟩
  · refine (θ_run Cert.Reference2Ideal.defs _ _).mono (fun r h c => ?_) (Cert.Reference2Ideal.Value.run (F := Ideal) m' g')
    obtain ⟨h0, hk⟩ := h c
    obtain ⟨e0, e1, e2, e3, e4, e5, e6, e7, e8, e9, e10⟩ := he c
    refine ⟨h0.trans ?_, hk⟩
    refine Eq.trans ?_ (Cert.Merge.result_eq m c).symm
    rw [Cert.Reference2Ideal.Read.val_main_v108_eq, e0, e1, e2, e3, e4, e5, e6, e7, e8, e9, e10]

end

section
attribute [local instance] Cert.Kernel3Ideal.Gen.facts Cert.Reference3Ideal.Gen.facts Cert.Pre_finite3.Gen.facts

theorem frame_reference3 : Cert.quiescent_Reference3Ideal := by
  intro m g _
  refine (θ_run Cert.Reference3Ideal.defs _ _).mono (fun r h => ⟨fun c => (h c).2.2.2.2.2.2.2, ?_⟩) (Cert.Reference3Ideal.Value.run (F := Ideal) m g)
  exact sem_eq_zero_of_no_sems rfl r.2

theorem equal3 : Cert.algebraic_Kernel3Ideal_Reference3Ideal_pre_finite3 := by
  intro m g m' g' hp he
  refine ⟨fun c => Cert.Kernel3Ideal.Premix.result7 m c, fun c => Cert.Kernel3Ideal.Premix.result8 m c, fun c => Cert.Kernel3Ideal.Premix.result9 m c, fun c => Cert.Kernel3Ideal.Premix.result10 m c,
    fun c => Cert.Kernel3Ideal.Premix.result11 m c, fun c => Cert.Kernel3Ideal.Premix.result12 m c, fun c => Cert.Kernel3Ideal.Premix.result13 m c, ?_, ?_⟩
  · refine (θ_run Cert.Kernel3Ideal.defs _ _).mono (fun r h c => ?_) (Cert.Kernel3Ideal.Value.run_blocks (F := Ideal) m g)
    obtain ⟨r0, r1, r2, r3, r4, r5, r6, hk⟩ := h c
    exact ⟨r0.trans (Cert.Kernel3Ideal.Premix.final7 m c), r1.trans (Cert.Kernel3Ideal.Premix.final8 m c (Cert.Premix.column_real m c hp)), r2.trans (Cert.Kernel3Ideal.Premix.final9 m c (Cert.Premix.column_real m c hp)),
      r3.trans (Cert.Kernel3Ideal.Premix.final10 m c), r4.trans (Cert.Kernel3Ideal.Premix.final11 m c), r5.trans (Cert.Kernel3Ideal.Premix.final12 m c), r6.trans (Cert.Kernel3Ideal.Premix.final13 m c), hk⟩
  · refine (θ_run Cert.Reference3Ideal.defs _ _).mono (fun r h c => ?_) (Cert.Reference3Ideal.Value.run (F := Ideal) m' g')
    obtain ⟨r0, r1, r2, r3, r4, r5, r6, hk⟩ := h c
    obtain ⟨e0, e1, e2, e3, e4, e5⟩ := he c
    refine ⟨?_, ?_, ?_, ?_, ?_, ?_, ?_, hk⟩
    · refine r0.trans ?_
      refine Eq.trans ?_ (Cert.Premix.result7_eq m c).symm
      show Cert.Reference3Ideal.Read.val_main_v27 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
      rw [e0, e1, e2, e3]
    · refine r1.trans ?_
      refine Eq.trans ?_ (Cert.Premix.result8_eq m c).symm
      rw [Cert.Reference3Ideal.Read.val_main_v66_eq, e0, e1, e2, e3, e4]
    · refine r2.trans ?_
      refine Eq.trans ?_ (Cert.Premix.result9_eq m c).symm
      rw [Cert.Reference3Ideal.Read.val_main_v69_eq, e0, e1, e2, e3, e5]
    · refine r3.trans ?_
      refine Eq.trans ?_ (Cert.Premix.result10_eq m c).symm
      show Cert.Reference3Ideal.Read.val_main_v72 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
      rw [e0, e1, e2, e3]
    · refine r4.trans ?_
      refine Eq.trans ?_ (Cert.Premix.result11_eq m c).symm
      show Cert.Reference3Ideal.Read.val_main_v29 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
      rw [e0, e1, e2, e3]
    · refine r5.trans ?_
      refine Eq.trans ?_ (Cert.Premix.result12_eq m c).symm
      show Cert.Reference3Ideal.Read.val_main_v73 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
      rw [e0, e1, e2, e3]
    · refine r6.trans ?_
      refine Eq.trans ?_ (Cert.Premix.result13_eq m c).symm
      show Cert.Reference3Ideal.Read.val_main_v75 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
      rw [e0, e1, e2, e3]

end

section
attribute [local instance] Cert.Kernel4Ideal.Gen.facts Cert.Reference4Ideal.Gen.facts

theorem frame_reference4 : Cert.quiescent_Reference4Ideal := by
  intro m g _
  refine (θ_run Cert.Reference4Ideal.defs _ _).mono (fun r h => ⟨fun c => (h c).2, ?_⟩) (Cert.Reference4Ideal.Value.run (F := Ideal) m g)
  exact sem_eq_zero_of_no_sems rfl r.2

theorem equal4 : Cert.algebraic_Kernel4Ideal_Reference4Ideal := by
  intro m g m' g' _ he
  refine ⟨fun c => Cert.Kernel4Ideal.Table.result m c, ?_, ?_⟩
  · refine (θ_run Cert.Kernel4Ideal.defs _ _).mono (fun r h c => ?_) (Cert.Kernel4Ideal.Value.run_blocks (F := Ideal) m g)
    obtain ⟨h0, hk⟩ := h c
    exact ⟨h0.trans (Cert.Kernel4Ideal.Table.final m c), hk⟩
  · refine (θ_run Cert.Reference4Ideal.defs _ _).mono (fun r h c => ?_) (Cert.Reference4Ideal.Value.run (F := Ideal) m' g')
    obtain ⟨h0, hk⟩ := h c
    obtain ⟨e0, e1, e2, e3⟩ := he c
    refine ⟨h0.trans ?_, hk⟩
    refine Eq.trans ?_ (Cert.Table.result_eq m c).symm
    rw [Cert.Reference4Ideal.Read.val_main_v6_eq, e0, e1, e2, e3]

end

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Pre_finite.Gen.facts, Cert.Pre_finite3.Gen.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, fun m g _ => Cert.Kernel3Ideal.Gen.frame m g,
    frame_reference3, fun m g _ => frame_reference3 m g trivial,
    fun m g _ => Cert.Kernel4.Gen.frame m g, fun m g _ => Cert.Kernel4Ideal.Gen.frame m g, frame_reference4,
    fun m g _ => Cert.Kernel5.Gen.frame m g, fun m g _ => Cert.Kernel5Ideal.Gen.frame m g,
    trivial, equal, trivial, equal2, trivial, equal3, trivial, equal4, trivial⟩

end Cert.Proof

end
